-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v44)) (v3 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_v45) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97_0) = v0 c
          ∧ r.2.mem ((c.tc : Thread Cert.ReferenceIdeal.nD Cert.ReferenceIdeal.τ).loc Cert.ReferenceIdeal.main_v97_1) = v1 c
          ∧ r.2.mem ((c.tc : Thread Cert.ReferenceIdeal.nD Cert.ReferenceIdeal.τ).loc Cert.ReferenceIdeal.main_v97_2) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6000000x32 : Shape := ⟨2, ![6000000, 32]⟩
abbrev S6000000 : Shape := ⟨1, ![6000000]⟩
abbrev S98304 : Shape := ⟨1, ![98304]⟩
abbrev S3072x128 : Shape := ⟨2, ![3072, 128]⟩
abbrev S3072x64 : Shape := ⟨2, ![3072, 64]⟩
abbrev S98304x64 : Shape := ⟨2, ![98304, 64]⟩
abbrev S3072x1x64 : Shape := ⟨3, ![3072, 1, 64]⟩
abbrev S3072x128x64 : Shape := ⟨3, ![3072, 128, 64]⟩
abbrev S393216x64 : Shape := ⟨2, ![393216, 64]⟩
abbrev S393216 : Shape := ⟨1, ![393216]⟩
abbrev S_ : Shape := ⟨0, ![]⟩
abbrev S393216x1 : Shape := ⟨2, ![393216, 1]⟩
abbrev S98304x1 : Shape := ⟨2, ![98304, 1]⟩
abbrev S98304x32 : Shape := ⟨2, ![98304, 32]⟩
abbrev S64x98304 : Shape := ⟨2, ![64, 98304]⟩
abbrev S32x98304 : Shape := ⟨2, ![32, 98304]⟩
abbrev S1x98304 : Shape := ⟨2, ![1, 98304]⟩
abbrev S64x2048 : Shape := ⟨2, ![64, 2048]⟩
abbrev S32x2048 : Shape := ⟨2, ![32, 2048]⟩
abbrev S1x2048 : Shape := ⟨2, ![1, 2048]⟩
abbrev S8x2048 : Shape := ⟨2, ![8, 2048]⟩
abbrev S2048 : Shape := ⟨1, ![2048]⟩

abbrev nBuf : Space → Nat
  | .hbm => 66
  | .vmem => 20
  | .smem => 0
  | _ => 0

abbrev bufTy : (tb : Table) → Fin (tcTables nBuf tb) → BufTy
  | .hbm, ⟨0, _⟩ => ⟨S6000000x32, .i8⟩
  | .hbm, ⟨1, _⟩ => ⟨S6000000, .f32⟩
  | .hbm, ⟨2, _⟩ => ⟨S6000000, .f32⟩
  | .hbm, ⟨3, _⟩ => ⟨S6000000, .f32⟩
  | .hbm, ⟨4, _⟩ => ⟨S98304, .i32⟩
  | .hbm, ⟨5, _⟩ => ⟨S3072x128, .i32⟩
  | .hbm, ⟨6, _⟩ => ⟨S3072x64, .f32⟩
  | .hbm, ⟨7, _⟩ => ⟨S98304x64, .i32⟩
  | .hbm, ⟨8, _⟩ => ⟨S3072x1x64, .f32⟩
  | .hbm, ⟨9, _⟩ => ⟨S3072x128x64, .f32⟩
  | .hbm, ⟨10, _⟩ => ⟨S393216x64, .f32⟩
  | .hbm, ⟨11, _⟩ => ⟨S393216, .i32⟩
  | .hbm, ⟨12, _⟩ => ⟨S_, .f32⟩
  | .hbm, ⟨13, _⟩ => ⟨S98304x64, .f32⟩
  | .hbm, ⟨14, _⟩ => ⟨S393216x1, .i32⟩
  | .hbm, ⟨15, _⟩ => ⟨S98304x64, .f32⟩
  | .hbm, ⟨16, _⟩ => ⟨S_, .i32⟩
  | .hbm, ⟨17, _⟩ => ⟨S98304, .i32⟩
  | .hbm, ⟨18, _⟩ => ⟨S98304, .i1⟩
  | .hbm, ⟨19, _⟩ => ⟨S_, .i32⟩
  | .hbm, ⟨20, _⟩ => ⟨S98304, .i32⟩
  | .hbm, ⟨21, _⟩ => ⟨S98304, .i32⟩
  | .hbm, ⟨22, _⟩ => ⟨S98304, .i32⟩
  | .hbm, ⟨23, _⟩ => ⟨S98304x1, .i32⟩
  | .hbm, ⟨24, _⟩ => ⟨S98304x32, .i8⟩
  | .hbm, ⟨25, _⟩ => ⟨S64x98304, .f32⟩
  | .hbm, ⟨26, _⟩ => ⟨S32x98304, .i8⟩
  | .hbm, ⟨27, _⟩ => ⟨S_, .i32⟩
  | .hbm, ⟨28, _⟩ => ⟨S98304, .i32⟩
  | .hbm, ⟨29, _⟩ => ⟨S98304, .i1⟩
  | .hbm, ⟨30, _⟩ => ⟨S_, .i32⟩
  | .hbm, ⟨31, _⟩ => ⟨S98304, .i32⟩
  | .hbm, ⟨32, _⟩ => ⟨S98304, .i32⟩
  | .hbm, ⟨33, _⟩ => ⟨S98304, .i32⟩
  | .hbm, ⟨34, _⟩ => ⟨S98304x1, .i32⟩
  | .hbm, ⟨35, _⟩ => ⟨S98304, .f32⟩
  | .hbm, ⟨36, _⟩ => ⟨S1x98304, .f32⟩
  | .hbm, ⟨37, _⟩ => ⟨S_, .i32⟩
  | .hbm, ⟨38, _⟩ => ⟨S98304, .i32⟩
  | .hbm, ⟨39, _⟩ => ⟨S98304, .i1⟩
  | .hbm, ⟨40, _⟩ => ⟨S_, .i32⟩
  | .hbm, ⟨41, _⟩ => ⟨S98304, .i32⟩
  | .hbm, ⟨42, _⟩ => ⟨S98304, .i32⟩
  | .hbm, ⟨43, _⟩ => ⟨S98304, .i32⟩
  | .hbm, ⟨44, _⟩ => ⟨S98304x1, .i32⟩
  | .hbm, ⟨45, _⟩ => ⟨S98304, .f32⟩
  | .hbm, ⟨46, _⟩ => ⟨S1x98304, .f32⟩
  | .hbm, ⟨47, _⟩ => ⟨S_, .i32⟩
  | .hbm, ⟨48, _⟩ => ⟨S98304, .i32⟩
  | .hbm, ⟨49, _⟩ => ⟨S98304, .i1⟩
  | .hbm, ⟨50, _⟩ => ⟨S_, .i32⟩
  | .hbm, ⟨51, _⟩ => ⟨S98304, .i32⟩
  | .hbm, ⟨52, _⟩ => ⟨S98304, .i32⟩
  | .hbm, ⟨53, _⟩ => ⟨S98304, .i32⟩
  | .hbm, ⟨54, _⟩ => ⟨S98304x1, .i32⟩
  | .hbm, ⟨55, _⟩ => ⟨S98304, .f32⟩
  | .hbm, ⟨56, _⟩ => ⟨S1x98304, .f32⟩
  | .hbm, ⟨57, _⟩ => ⟨S64x98304, .i32⟩
  | .hbm, ⟨58, _⟩ => ⟨S32x98304, .i8⟩
  | .hbm, ⟨59, _⟩ => ⟨S1x98304, .f32⟩
  | .hbm, ⟨60, _⟩ => ⟨S1x98304, .f32⟩
  | .hbm, ⟨61, _⟩ => ⟨S1x98304, .f32⟩
  | .hbm, ⟨62, _⟩ => ⟨S98304x32, .i8⟩
  | .hbm, ⟨63, _⟩ => ⟨S98304, .f32⟩
  | .hbm, ⟨64, _⟩ => ⟨S98304, .f32⟩
  | .hbm, ⟨65, _⟩ => ⟨S98304, .f32⟩
  | .local _ .vmem, ⟨0, _⟩ => ⟨S64x2048, .f32⟩
  | .local _ .vmem, ⟨1, _⟩ => ⟨S64x2048, .f32⟩
  | .local _ .vmem, ⟨2, _⟩ => ⟨S32x2048, .i8⟩
  | .local _ .vmem, ⟨3, _⟩ => ⟨S32x2048, .i8⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S64x2048, .i32⟩
  | .local _ .vmem, ⟨11, _⟩ => ⟨S64x2048, .i32⟩
  | .local _ .vmem, ⟨12, _⟩ => ⟨S32x2048, .i8⟩
  | .local _ .vmem, ⟨13, _⟩ => ⟨S32x2048, .i8⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S6000000x32, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v41_2 : Ref sig .tc := ⟨.hbm, 60, rfl⟩
abbrev main_v41_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2048 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S6000000x32 : Shape := ⟨2, ![6000000, 32]⟩
abbrev S6000000 : Shape := ⟨1, ![6000000]⟩
abbrev S98304 : Shape := ⟨1, ![98304]⟩
abbrev S3072x128 : Shape := ⟨2, ![3072, 128]⟩
abbrev S3072x64 : Shape := ⟨2, ![3072, 64]⟩
abbrev S98304x64 : Shape := ⟨2, ![98304, 64]⟩
abbrev S3072x1x64 : Shape := ⟨3, ![3072, 1, 64]⟩
abbrev S3072x128x64 : Shape := ⟨3, ![3072, 128, 64]⟩
abbrev S393216x64 : Shape := ⟨2, ![393216, 64]⟩
abbrev S393216 : Shape := ⟨1, ![393216]⟩
abbrev S_ : Shape := ⟨0, ![]⟩
abbrev S393216x1 : Shape := ⟨2, ![393216, 1]⟩
abbrev S98304x1 : Shape := ⟨2, ![98304, 1]⟩
abbrev S98304x32 : Shape := ⟨2, ![98304, 32]⟩
abbrev S98304x32x1 : Shape := ⟨3, ![98304, 32, 1]⟩
abbrev S98304x32x2 : Shape := ⟨3, ![98304, 32, 2]⟩

abbrev nBuf : Space → Nat
  | .hbm => 138
  | .vmem => 0
  | .smem => 0
  | _ => 0

abbrev hbmTy0_0 (i : Nat) : BufTy := match i % 128 with
  | 0 => ⟨S6000000x32, .i8⟩
  | 1 => ⟨S6000000, .f32⟩
  | 2 => ⟨S6000000, .f32⟩
  | 3 => ⟨S6000000, .f32⟩
  | 4 => ⟨S98304, .i32⟩
  | 5 => ⟨S3072x128, .i32⟩
  | 6 => ⟨S3072x64, .f32⟩
  | 7 => ⟨S98304x64, .i32⟩
  | 8 => ⟨S3072x1x64, .f32⟩
  | 9 => ⟨S3072x128x64, .f32⟩
  | 10 => ⟨S393216x64, .f32⟩
  | 11 => ⟨S393216, .i32⟩
  | 12 => ⟨S_, .f32⟩
  | 13 => ⟨S98304x64, .f32⟩
  | 14 => ⟨S393216x1, .i32⟩
  | 15 => ⟨S98304x64, .f32⟩
  | 16 => ⟨S_, .i32⟩
  | 17 => ⟨S98304, .i32⟩
  | 18 => ⟨S98304, .i1⟩
  | 19 => ⟨S_, .i32⟩
  | 20 => ⟨S98304, .i32⟩
  | 21 => ⟨S98304, .i32⟩
  | 22 => ⟨S98304, .i32⟩
  | 23 => ⟨S98304x1, .i32⟩
  | 24 => ⟨S98304x32, .i8⟩
  | 25 => ⟨S98304x32, .i32⟩
  | 26 => ⟨S_, .i32⟩
  | 27 => ⟨S98304, .i32⟩
  | 28 => ⟨S98304, .i1⟩
  | 29 => ⟨S_, .i32⟩
  | 30 => ⟨S98304, .i32⟩
  | 31 => ⟨S98304, .i32⟩
  | 32 => ⟨S98304, .i32⟩
  | 33 => ⟨S98304x1, .i32⟩
  | 34 => ⟨S98304, .f32⟩
  | 35 => ⟨S_, .i32⟩
  | 36 => ⟨S98304, .i32⟩
  | 37 => ⟨S98304, .i1⟩
  | 38 => ⟨S_, .i32⟩
  | 39 => ⟨S98304, .i32⟩
  | 40 => ⟨S98304, .i32⟩
  | 41 => ⟨S98304, .i32⟩
  | 42 => ⟨S98304x1, .i32⟩
  | 43 => ⟨S98304, .f32⟩
  | 44 => ⟨S_, .i32⟩
  | 45 => ⟨S98304, .i32⟩
  | 46 => ⟨S98304, .i1⟩
  | 47 => ⟨S_, .i32⟩
  | 48 => ⟨S98304, .i32⟩
  | 49 => ⟨S98304, .i32⟩
  | 50 => ⟨S98304, .i32⟩
  | 51 => ⟨S98304x1, .i32⟩
  | 52 => ⟨S98304, .f32⟩
  | 53 => ⟨S_, .i32⟩
  | 54 => ⟨S98304x32, .i32⟩
  | 55 => ⟨S98304x32, .i32⟩
  | 56 => ⟨S_, .i32⟩
  | 57 => ⟨S98304x32, .i32⟩
  | 58 => ⟨S98304x32, .i32⟩
  | 59 => ⟨S98304x32x1, .i32⟩
  | 60 => ⟨S98304x32x1, .i32⟩
  | 61 => ⟨S98304x32x2, .i32⟩
  | 62 => ⟨S98304x64, .i32⟩
  | 63 => ⟨S98304x64, .f32⟩
  | 64 => ⟨S98304x1, .f32⟩
  | 65 => ⟨S98304x64, .f32⟩
  | 66 => ⟨S98304x64, .f32⟩
  | 67 => ⟨S98304x1, .f32⟩
  | 68 => ⟨S98304x64, .f32⟩
  | 69 => ⟨S98304x64, .f32⟩
  | 70 => ⟨S98304x64, .f32⟩
  | 71 => ⟨S_, .f32⟩
  | 72 => ⟨S98304, .f32⟩
  | 73 => ⟨S_, .f32⟩
  | 74 => ⟨S98304, .f32⟩
  | 75 => ⟨S98304, .f32⟩
  | 76 => ⟨S98304, .f32⟩
  | 77 => ⟨S98304, .f32⟩
  | 78 => ⟨S_, .f32⟩
  | 79 => ⟨S98304, .f32⟩
  | 80 => ⟨S98304, .f32⟩
  | 81 => ⟨S_, .f32⟩
  | 82 => ⟨S98304, .f32⟩
  | 83 => ⟨S98304, .f32⟩
  | 84 => ⟨S98304x1, .f32⟩
  | 85 => ⟨S98304x64, .f32⟩
  | 86 => ⟨S98304x64, .f32⟩
  | 87 => ⟨S98304x64, .f32⟩
  | 88 => ⟨S_, .f32⟩
  | 89 => ⟨S98304, .f32⟩
  | 90 => ⟨S_, .f32⟩
  | 91 => ⟨S98304, .f32⟩
  | 92 => ⟨S98304, .f32⟩
  | 93 => ⟨S_, .f32⟩
  | 94 => ⟨S98304, .f32⟩
  | 95 => ⟨S98304, .f32⟩
  | 96 => ⟨S_, .f32⟩
  | 97 => ⟨S98304, .f32⟩
  | 98 => ⟨S98304, .f32⟩
  | 99 => ⟨S_, .f32⟩
  | 100 => ⟨S98304, .f32⟩
  | 101 => ⟨S98304, .f32⟩
  | 102 => ⟨S98304x1, .f32⟩
  | 103 => ⟨S98304x64, .f32⟩
  | 104 => ⟨S98304x64, .f32⟩
  | 105 => ⟨S98304x1, .f32⟩
  | 106 => ⟨S98304x64, .f32⟩
  | 107 => ⟨S98304x64, .f32⟩
  | 108 => ⟨S_, .i32⟩
  | 109 => ⟨S98304x64, .i32⟩
  | 110 => ⟨S98304x64, .i32⟩
  | 111 => ⟨S98304x64, .f32⟩
  | 112 => ⟨S_, .f32⟩
  | 113 => ⟨S98304x64, .f32⟩
  | 114 => ⟨S98304x64, .f32⟩
  | 115 => ⟨S98304x64, .f32⟩
  | 116 => ⟨S98304x64, .f32⟩
  | 117 => ⟨S_, .f32⟩
  | 118 => ⟨S_, .f32⟩
  | 119 => ⟨S_, .f32⟩
  | 120 => ⟨S98304x64, .f32⟩
  | 121 => ⟨S98304x64, .f32⟩
  | 122 => ⟨S_, .f32⟩
  | 123 => ⟨S98304x64, .f32⟩
  | 124 => ⟨S98304x64, .f32⟩
  | 125 => ⟨S98304x64, .i32⟩
  | 126 => ⟨S98304x64, .i8⟩
  | 127 => ⟨S98304x64, .i32⟩
  | _ => ⟨S6000000x32, .i8⟩

abbrev hbmTy0_1 (i : Nat) : BufTy := match i % 128 with
  | 0 => ⟨S98304x32, .i32⟩
  | 1 => ⟨S98304x32, .i32⟩
  | 2 => ⟨S_, .i32⟩
  | 3 => ⟨S98304x32, .i32⟩
  | 4 => ⟨S98304x32, .i32⟩
  | 5 => ⟨S98304x32, .i32⟩
  | 6 => ⟨S98304x32, .i8⟩
  | 7 => ⟨S98304x32, .i8⟩
  | 8 => ⟨S98304, .f32⟩
  | 9 => ⟨S98304, .f32⟩
  | _ => ⟨S6000000x32, .i8⟩

abbrev hbmTy (i : Nat) : BufTy := match i / 128 with
  | 0 => hbmTy0_0 i
  | 1 => hbmTy0_1 i
  | _ => ⟨S6000000x32, .i8⟩

abbrev bufTy : (tb : Table) → Fin (tcTables nBuf tb) → BufTy
  | .hbm, ⟨i, _⟩ => hbmTy i
  | _, _ => ⟨S6000000x32, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_18 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_19 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_20 : Ref sig .tc := ⟨.hbm, 117, rfl⟩
abbrev main_cst_21 : Ref sig .tc := ⟨.hbm, 118, rfl⟩
abbrev main_call0_v0 : Ref sig .tc := ⟨.hbm, 119, rfl⟩
abbrev main_call0_v1 : Ref sig .tc := ⟨.hbm, 120, rfl⟩
abbrev main_call0_v2 : Ref sig .tc := ⟨.hbm, 121, rfl⟩
abbrev main_call0_v3 : Ref sig .tc := ⟨.hbm, 122, rfl⟩
abbrev main_call0_v4 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_22 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97_0 : Ref sig .tc := ⟨.hbm, 135, rfl⟩
abbrev main_v97_1 : Ref sig .tc := ⟨.hbm, 136, rfl⟩
abbrev main_v97_2 : Ref sig .tc := ⟨.hbm, 137, rfl⟩

abbrev nD : Nat := 1
abbrev τ : Topo := Topo.v7x

variable {F : FTy → Type} [FloatOps F]
-- ==== Proof.Row.lean ====
/-
  The mathematics of one row, over the extended reals: one row of the table, its 64 summed gradients and its 64 random words go in,
  the 32 new bytes, the new scale, the new bias and the new momentum come out. Both programs are shown to compute these functions
  at every row. The second half of the file holds the facts about them that do not mention either program: how a sum, a minimum
  or a maximum over 64 columns is regrouped, and how eight four-bit fields sit in one 32-bit word.
-/
module

public import Idealize.ShloMosaic.Lib.Pointwise
public import Idealize.ShloMosaic.Lib.Pipeline.ValueKit
public import Idealize.ShloMosaic.Lib.BitcastFour
public import Mathlib.Algebra.BigOperators.Fin

@[expose] public section

set_option maxRecDepth 16384

noncomputable section

open Idealize.ShloMosaic

namespace Cert.Row

/-! ### What one row computes -/

/-- Column `d` of the packed row: the low nibble of byte `d / 2` where `d` is even, the high nibble where `d` is odd. -/
def nib (p : Fin 32 → BitVec 8) (d : Fin 64) : BitVec 32 :=
  if d.val % 2 = 0 then (p ⟨d.val / 2, by omega⟩).setWidth 32 &&& 15#32 else (p ⟨d.val / 2, by omega⟩).setWidth 32 >>> 4

/-- The new momentum: the old one plus the mean of the squared gradients. -/
def state (mom : EReal) (g : Fin 64 → EReal) : EReal :=
  mom + Ideal.div (∑ d, g d * g d) (Ideal.ofBits .f32 0x42800000#32)

/-- The step size of the row: the learning rate over the root of the momentum plus the guard. -/
def mult (st : EReal) : EReal :=
  Ideal.div (Ideal.ofBits .f32 0x3CA3D70A#32) (Ideal.sqrt st + Ideal.ofBits .f32 0x322BCC77#32)

/-- The updated weight at a column: the dequantised weight minus the step times the gradient. -/
def wnew (p : Fin 32 → BitVec 8) (sc bi mom : EReal) (g : Fin 64 → EReal) (d : Fin 64) : EReal :=
  (((nib p d).toInt : ℝ) : EReal) * sc + bi - mult (state mom g) * g d

/-- The least of the row's 64 weights: the new bias. -/
def lo (w : Fin 64 → EReal) : EReal := Finset.fold min (Ideal.ofBits .f32 0x7F800000#32) w Finset.univ

/-- The greatest of the row's 64 weights. -/
def hi (w : Fin 64 → EReal) : EReal := Finset.fold max (Ideal.ofBits .f32 0xFF800000#32) w Finset.univ

/-- The new scale: the spread of the weights over 15. -/
def oscale (w : Fin 64 → EReal) : EReal := Ideal.div (hi w - lo w) (Ideal.ofBits .f32 0x41700000#32)

/-- The factor that takes a weight to a code: 15 over the guarded spread. -/
def inv (w : Fin 64 → EReal) : EReal :=
  Ideal.div (Ideal.ofBits .f32 0x41700000#32) (hi w - lo w + Ideal.ofBits .f32 0x322BCC77#32)

/-- A code from a weight, the row's least weight, its factor and a random word: scaled, the random fraction added, rounded down,
    clipped to 0 … 15 and converted. -/
def quant (w mn iv : EReal) (r : BitVec 32) : BitVec 32 :=
  Ideal.fptosi 32 (min (Ideal.ofBits .f32 0x41700000#32) (max 0 (Ideal.liftRound Int.floor
    ((w - mn) * iv + (((r >>> 8).toNat : ℝ) : EReal) * Ideal.ofBits .f32 0x33800000#32))))

/-- The new code at a column. -/
def code (w : Fin 64 → EReal) (r : Fin 64 → BitVec 32) (d : Fin 64) : BitVec 32 := quant (w d) (lo w) (inv w) (r d)

/-- The new byte: the code of the even column in its low nibble, of the odd one in its high nibble. -/
def byte (q : Fin 64 → BitVec 32) (j : Fin 32) : BitVec 8 :=
  (q ⟨2 * j.val, by omega⟩ ||| q ⟨2 * j.val + 1, by omega⟩ <<< 4).setWidth 8

/-! ### Regrouping the 64 columns as eight words of eight -/

/-- A sum over 64 columns is the sum over eight positions of the eight columns 0+s, 8+s, …, 56+s. -/
theorem sum64 (f : Fin 64 → EReal) :
    ∑ d, f d = ∑ s : Fin 8, (f ⟨s.val, by omega⟩ + f ⟨8 + s.val, by omega⟩ + f ⟨16 + s.val, by omega⟩ + f ⟨24 + s.val, by omega⟩
      + f ⟨32 + s.val, by omega⟩ + f ⟨40 + s.val, by omega⟩ + f ⟨48 + s.val, by omega⟩ + f ⟨56 + s.val, by omega⟩) := by
  rw [← (finProdFinEquiv (m := 8) (n := 8)).sum_comp, Fintype.sum_prod_type_right]
  refine Finset.sum_congr rfl fun s _ => ?_
  rw [Fin.sum_univ_eight]
  congr 1 <;> [congr 1 <;> [congr 1 <;> [congr 1 <;> [congr 1 <;> [congr 1 <;> [congr 1; skip]; skip]; skip]; skip]; skip]; skip] <;>
    exact congrArg f (Fin.ext (by simp [finProdFinEquiv] <;> omega))

/-- A statement about all 64 columns is one about the eight columns of each position. -/
theorem forall64 (P : Fin 64 → Prop) :
    (∀ d, P d) ↔ ∀ s : Fin 8, P ⟨s.val, by omega⟩ ∧ P ⟨8 + s.val, by omega⟩ ∧ P ⟨16 + s.val, by omega⟩ ∧ P ⟨24 + s.val, by omega⟩
      ∧ P ⟨32 + s.val, by omega⟩ ∧ P ⟨40 + s.val, by omega⟩ ∧ P ⟨48 + s.val, by omega⟩ ∧ P ⟨56 + s.val, by omega⟩ := by
  constructor
  · intro h s; exact ⟨h _, h _, h _, h _, h _, h _, h _, h _⟩
  · intro h d
    obtain ⟨h0, h1, h2, h3, h4, h5, h6, h7⟩ := h ⟨d.val % 8, by omega⟩
    have hd := d.isLt
    have hc : d.val / 8 = 0 ∨ d.val / 8 = 1 ∨ d.val / 8 = 2 ∨ d.val / 8 = 3 ∨ d.val / 8 = 4 ∨ d.val / 8 = 5 ∨ d.val / 8 = 6
        ∨ d.val / 8 = 7 := by omega
    rcases hc with e | e | e | e | e | e | e | e
    · convert h0 using 1; apply Fin.ext; dsimp only; omega
    · convert h1 using 1; apply Fin.ext; dsimp only; omega
    · convert h2 using 1; apply Fin.ext; dsimp only; omega
    · convert h3 using 1; apply Fin.ext; dsimp only; omega
    · convert h4 using 1; apply Fin.ext; dsimp only; omega
    · convert h5 using 1; apply Fin.ext; dsimp only; omega
    · convert h6 using 1; apply Fin.ext; dsimp only; omega
    · convert h7 using 1; apply Fin.ext; dsimp only; omega

/-- The least of 64 weights, taken eight at a time. -/
theorem lo64 (f : Fin 64 → EReal) :
    Finset.fold min (Ideal.ofBits .f32 0x7F800000#32) (fun s : Fin 8 => min (min (min (min (min (min (min (f ⟨s.val, by omega⟩)
      (f ⟨8 + s.val, by omega⟩)) (f ⟨16 + s.val, by omega⟩)) (f ⟨24 + s.val, by omega⟩)) (f ⟨32 + s.val, by omega⟩))
      (f ⟨40 + s.val, by omega⟩)) (f ⟨48 + s.val, by omega⟩)) (f ⟨56 + s.val, by omega⟩)) Finset.univ = lo f := by
  refine eq_of_forall_le_iff fun c => ?_
  rw [lo, Finset.le_fold_min, Finset.le_fold_min]
  simp only [Finset.mem_univ, true_implies, le_min_iff]
  rw [forall64 fun d => c ≤ f d]
  simp only [and_assoc]

/-- The greatest of 64 weights, taken eight at a time. -/
theorem hi64 (f : Fin 64 → EReal) :
    Finset.fold max (Ideal.ofBits .f32 0xFF800000#32) (fun s : Fin 8 => max (max (max (max (max (max (max (f ⟨s.val, by omega⟩)
      (f ⟨8 + s.val, by omega⟩)) (f ⟨16 + s.val, by omega⟩)) (f ⟨24 + s.val, by omega⟩)) (f ⟨32 + s.val, by omega⟩))
      (f ⟨40 + s.val, by omega⟩)) (f ⟨48 + s.val, by omega⟩)) (f ⟨56 + s.val, by omega⟩)) Finset.univ = hi f := by
  refine eq_of_forall_ge_iff fun c => ?_
  rw [hi, Finset.fold_max_le, Finset.fold_max_le]
  simp only [Finset.mem_univ, true_implies, max_le_iff]
  rw [forall64 fun d => f d ≤ c]
  simp only [and_assoc]

/-! ### Constants -/

/-- The word of 1/64 denotes 1/64. -/
theorem ofBits_64th : Ideal.ofBits .f32 0x3C800000#32 = ((1 / 64 : ℝ) : EReal) := by
  simp [Ideal.ofBits, Ideal.ieee, zpow_neg]; norm_num [zpow_neg]
  rw [← EReal.coe_mul]; norm_num

/-- The word of 64 denotes 64. -/
theorem ofBits_64 : Ideal.ofBits .f32 0x42800000#32 = ((64 : ℝ) : EReal) := by
  simp [Ideal.ofBits, Ideal.ieee]; norm_num [zpow_neg]
  rw [← EReal.coe_mul]; norm_num

/-- The word of 15 denotes 15. -/
theorem ofBits_15 : Ideal.ofBits .f32 0x41700000#32 = ((15 : ℝ) : EReal) := by
  simp [Ideal.ofBits, Ideal.ieee]; norm_num [zpow_neg]
  rw [← EReal.coe_mul]; norm_num

/-- Multiplying by 1/64 is dividing by 64. -/
theorem mul_64th (x : EReal) :
    x * Ideal.ofBits .f32 0x3C800000#32 = Ideal.div x (Ideal.ofBits .f32 0x42800000#32) := by
  rw [ofBits_64th, ofBits_64, Ideal.div_coe (by norm_num)]

/-! ### Codes are four-bit -/

/-- A value clipped to 0 … 15 converts to a word below 16. -/
theorem clip_lt (x : EReal) : (Ideal.fptosi 32 (min (Ideal.ofBits .f32 0x41700000#32) (max 0 x))).toNat < 16 := by
  obtain ⟨r, hr, h0, h15⟩ : ∃ r : ℝ, min (Ideal.ofBits .f32 0x41700000#32) (max 0 x) = (r : EReal) ∧ 0 ≤ r ∧ r ≤ 15 := by
    rw [ofBits_15]
    have h1 : (0 : EReal) ≤ min ((15 : ℝ) : EReal) (max 0 x) := le_min (by exact_mod_cast (by norm_num : (0:ℝ) ≤ 15)) (le_max_left _ _)
    have h2 : min ((15 : ℝ) : EReal) (max 0 x) ≤ ((15 : ℝ) : EReal) := min_le_left _ _
    generalize min ((15 : ℝ) : EReal) (max 0 x) = y at h1 h2
    induction y with
    | bot => simp at h1
    | top => exact absurd h2 (by simp)
    | coe r => exact ⟨r, rfl, by exact_mod_cast h1, by exact_mod_cast h2⟩
  rw [hr, Ideal.fptosi, Ideal.toIntClamped_coe, if_pos h0]
  have hf0 : 0 ≤ ⌊r⌋ := Int.floor_nonneg.2 h0
  have hf15 : ⌊r⌋ ≤ 15 := by
    have : (⌊r⌋ : ℝ) ≤ 15 := (Int.floor_le r).trans h15
    exact_mod_cast this
  obtain ⟨n, hn⟩ := Int.eq_ofNat_of_zero_le hf0
  rw [hn]
  have e : max (-((2 ^ (32 - 1) : Nat) : Int)) (min (((2 ^ (32 - 1) : Nat) : Int) - 1) (n : Int)) = (n : Int) := by
    norm_num; omega
  rw [e, BitVec.ofInt_natCast, BitVec.toNat_ofNat]
  omega

/-- Every code is below 16. -/
theorem code_lt (w : Fin 64 → EReal) (r : Fin 64 → BitVec 32) (d : Fin 64) : (code w r d).toNat < 16 := clip_lt _

/-- A random word without its low eight bits is the same number read with or without a sign. -/
theorem shr8_toInt (r : BitVec 32) : (r >>> 8).toInt = ((r >>> 8).toNat : Int) := by
  have h : (r >>> 8).toNat < 2 ^ 24 := by
    rw [BitVec.toNat_ushiftRight, Nat.shiftRight_eq_div_pow]
    have := r.isLt
    omega
  rw [BitVec.toInt_eq_toNat_cond, if_pos (by omega)]

/-- A byte widened with zeros and shifted right arithmetically by four is its high nibble. -/
theorem shrsi_byte (b : BitVec 8) : IntOp.shrsi .host (b.setWidth 32) 4#32 = b.setWidth 32 >>> 4 := by
  rw [IntOp.shrsi, if_pos (by decide)]
  revert b; decide

/-! ### Eight fields in a word -/

/-- A position times four is the position's shift. -/
theorem shift_toNat (s : Fin 8) : (IntOp.muli 4#32 (BitVec.ofNat 32 s.val)).toNat = 4 * s.val := by
  revert s; decide

/-- The nibble at position `s` of the word made of bytes `4t … 4t+3` is column `8t + s` of the row. -/
theorem nib_of_word (p : Fin 32 → BitVec 8) (x : BitVec 32) (t : Nat) (s : Fin 8) (d : Fin 64) (hd : d.val = 8 * t + s.val)
    (hx : ∀ (q : Nat) (hq : q < 32) (b : Fin 32), b.val = 4 * t + q / 8 → x.getLsbD q = (p b).getLsbD (q % 8)) :
    IntOp.andi (IntOp.shrsi .vector x (IntOp.muli 4#32 (BitVec.ofNat 32 s.val))) 15#32 = nib p d := by
  have h15 : ∀ i : Nat, (15#32 : BitVec 32).getLsbD i = decide (i < 4) := by
    intro i
    by_cases hi : i < 32
    · interval_cases i <;> rfl
    · rw [BitVec.getLsbD_of_ge _ _ (by omega)]; simp; omega
  have hs := shift_toNat s
  apply BitVec.eq_of_getLsbD_eq
  intro i hi
  rw [IntOp.andi, IntOp.shrsi, if_pos (by omega), BitVec.getLsbD_and, h15, nib]
  by_cases h4 : i < 4
  · rw [BitVec.sshiftRight', hs, BitVec.getLsbD_sshiftRight]
    have hb := hx (4 * s.val + i) (by omega) ⟨d.val / 2, by omega⟩ (by dsimp only; omega)
    simp only [h4, decide_true, Bool.and_true]
    rw [if_pos (by omega), hb]
    have hi' : ¬ 32 ≤ i := by omega
    split
    · rename_i he
      rw [BitVec.getLsbD_and, h15, BitVec.getLsbD_setWidth]
      have : (4 * s.val + i) % 8 = i := by omega
      simp [h4, hi, this, hi']
    · rename_i he
      rw [BitVec.getLsbD_ushiftRight, BitVec.getLsbD_setWidth]
      have : (4 * s.val + i) % 8 = 4 + i := by omega
      simp [this, hi']; omega
  · simp only [h4, decide_false, Bool.and_false]
    split
    · rw [BitVec.getLsbD_and, h15]; simp [h4]
    · rw [BitVec.getLsbD_ushiftRight, BitVec.getLsbD_setWidth, BitVec.getLsbD_of_ge (p _) _ (by omega)]; simp

/-- Thirty-two-bit elements read at eight bits: bit `q` of byte row `a` of a column is bit `8·(a % 4) + q` of word row `a / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (a : Fin R) (l : Fin n) (q : Nat) (hq : q < 8) (p : Fin r)
    (hp : p.val = a.val / 4) :
    (bitcast ⟨2, ![R, n]⟩ 8 x h (ix2 a l)).getLsbD q = (x (ix2 p l)).getLsbD (8 * (a.val % 4) + q) := by
  rw [bitcast_getLsbD x h _ q hq (by decide)]
  have hr : (⟨2, ![R, n]⟩ : Shape).row (ix2 a l) = a.val := rfl
  have em : ((⟨2, ![R, n]⟩ : Shape).row (ix2 a l) * 8 + q) % 32 = 8 * (a.val % 4) + q := by rw [hr]; omega
  have ed : p.val = ((⟨2, ![R, n]⟩ : Shape).row (ix2 a l) * 8 + q) / 32 := by rw [hr, hp]; omega
  rw [em]
  congr 2
  funext c
  match c with
  | ⟨0, _⟩ => exact Fin.ext ((h.srcIdx_row _ _ _ ⟨0, Nat.zero_lt_two⟩ rfl).trans ed.symm)
  | ⟨1, _⟩ => exact Fin.ext (h.srcIdx_other _ _ _ ⟨1, Nat.one_lt_two⟩ (by show ¬ 1 + 2 = 2; omega))

/-- The sum of eight four-bit codes, each shifted to its position, as a number. -/
theorem fold_toNat (q : Fin 8 → BitVec 32) (hq : ∀ s, (q s).toNat < 16) :
    (Finset.fold IntOp.addi 0#32 (fun s : Fin 8 => IntOp.shli .vector (q s) (IntOp.muli 4#32 (BitVec.ofNat 32 s.val)))
      Finset.univ).toNat
      = (q 0).toNat + 16 * (q 1).toNat + 256 * (q 2).toNat + 4096 * (q 3).toNat + 65536 * (q 4).toNat + 1048576 * (q 5).toNat
        + 16777216 * (q 6).toNat + 268435456 * (q 7).toNat := by
  have hs : ∀ s : Fin 8, (IntOp.shli .vector (q s) (IntOp.muli 4#32 (BitVec.ofNat 32 s.val))).toNat = (q s).toNat * 16 ^ s.val := by
    intro s
    have h1 := shift_toNat s
    have h2 := hq s
    rw [IntOp.shli, if_pos (by omega), BitVec.shiftLeft_eq', h1, BitVec.toNat_shiftLeft, Nat.shiftLeft_eq, Nat.pow_mul]
    apply Nat.mod_eq_of_lt
    revert h2
    generalize (q s).toNat = n
    intro h2
    fin_cases s <;> simp <;> omega
  have e (f : Fin 8 → BitVec 32) : Finset.fold IntOp.addi 0#32 f Finset.univ
      = f 0 + (f 1 + (f 2 + (f 3 + (f 4 + (f 5 + (f 6 + (f 7 + 0#32))))))) := rfl
  rw [e]
  simp only [BitVec.toNat_add, hs]
  have := hq 0; have := hq 1; have := hq 2; have := hq 3; have := hq 4; have := hq 5; have := hq 6; have := hq 7
  simp
  omega

/-- Byte row `j` of the words that hold, in word `j / 4`, the codes of columns `8·(j / 4) …`: the packed byte `j` of the row. -/
theorem byte_of_word (q : Fin 64 → BitVec 32) (hq : ∀ d, (q d).toNat < 16) (j : Fin 32) (y : BitVec 8) (x : BitVec 32)
    (hx : x = Finset.fold IntOp.addi 0#32 (fun s : Fin 8 => IntOp.shli .vector (q ⟨8 * (j.val / 4) + s.val, by omega⟩)
      (IntOp.muli 4#32 (BitVec.ofNat 32 s.val))) Finset.univ)
    (hy : ∀ i : Nat, i < 8 → y.getLsbD i = x.getLsbD (8 * (j.val % 4) + i)) : y = byte q j := by
  have hn := fold_toNat (fun s : Fin 8 => q ⟨8 * (j.val / 4) + s.val, by omega⟩) (fun s => hq _)
  rw [← hx] at hn
  have hb : (byte q j).toNat = (q ⟨2 * j.val, by omega⟩).toNat + 16 * (q ⟨2 * j.val + 1, by omega⟩).toNat := by
    have h0 := hq ⟨2 * j.val, by omega⟩
    have h1 := hq ⟨2 * j.val + 1, by omega⟩
    rw [byte, BitVec.toNat_setWidth, BitVec.toNat_or, BitVec.toNat_shiftLeft]
    rw [Nat.mod_eq_of_lt (a := _ <<< 4) (by rw [Nat.shiftLeft_eq]; omega), Nat.or_comm, ← Nat.shiftLeft_add_eq_or_of_lt (by omega),
      Nat.shiftLeft_eq]
    omega
  have hd : (byte q j).toNat = x.toNat / 2 ^ (8 * (j.val % 4)) % 2 ^ 8 := by
    rw [hb, hn]
    have h0 := hq ⟨8 * (j.val / 4), by omega⟩
    have h1 := hq ⟨8 * (j.val / 4) + 1, by omega⟩
    have h2 := hq ⟨8 * (j.val / 4) + 2, by omega⟩
    have h3 := hq ⟨8 * (j.val / 4) + 3, by omega⟩
    have h4 := hq ⟨8 * (j.val / 4) + 4, by omega⟩
    have h5 := hq ⟨8 * (j.val / 4) + 5, by omega⟩
    have h6 := hq ⟨8 * (j.val / 4) + 6, by omega⟩
    have h7 := hq ⟨8 * (j.val / 4) + 7, by omega⟩
    have hc : j.val % 4 = 0 ∨ j.val % 4 = 1 ∨ j.val % 4 = 2 ∨ j.val % 4 = 3 := by omega
    rcases hc with e | e | e | e
    · rw [show (⟨2 * j.val, by omega⟩ : Fin 64) = ⟨8 * (j.val / 4), by omega⟩ from Fin.ext (by dsimp only; omega),
        show (⟨2 * j.val + 1, by omega⟩ : Fin 64) = ⟨8 * (j.val / 4) + 1, by omega⟩ from Fin.ext (by dsimp only; omega), e]
      simp
      omega
    · rw [show (⟨2 * j.val, by omega⟩ : Fin 64) = ⟨8 * (j.val / 4) + 2, by omega⟩ from Fin.ext (by dsimp only; omega),
        show (⟨2 * j.val + 1, by omega⟩ : Fin 64) = ⟨8 * (j.val / 4) + 3, by omega⟩ from Fin.ext (by dsimp only; omega), e]
      simp
      omega
    · rw [show (⟨2 * j.val, by omega⟩ : Fin 64) = ⟨8 * (j.val / 4) + 4, by omega⟩ from Fin.ext (by dsimp only; omega),
        show (⟨2 * j.val + 1, by omega⟩ : Fin 64) = ⟨8 * (j.val / 4) + 5, by omega⟩ from Fin.ext (by dsimp only; omega), e]
      simp
      omega
    · rw [show (⟨2 * j.val, by omega⟩ : Fin 64) = ⟨8 * (j.val / 4) + 6, by omega⟩ from Fin.ext (by dsimp only; omega),
        show (⟨2 * j.val + 1, by omega⟩ : Fin 64) = ⟨8 * (j.val / 4) + 7, by omega⟩ from Fin.ext (by dsimp only; omega), e]
      simp
      omega
  apply BitVec.eq_of_getLsbD_eq
  intro i hi
  rw [hy i hi, BitVec.getLsbD, BitVec.getLsbD, hd, Nat.testBit_mod_two_pow, Nat.testBit_div_two_pow, Nat.add_comm]
  simp [hi]

end Cert.Row
-- ==== Proof.Block.lean ====
/-
  What one grid point of the kernel computes, read at a lane: from the six input blocks, lane `l` of every output block is the row
  function (`Row.lean`) of lane `l` of the input blocks. The kernel keeps the 64 columns of a row as eight vectors of eight
  sublanes: column `8t + s` is sublane `s` of vector `t`.
-/
module

public import proofs.«01_k».proof.Proof.Gen.KernelIdeal.Frame
public import proofs.«01_k».proof.Proof.Row

@[expose] public section

set_option maxRecDepth 16384

noncomputable section

open Idealize.ShloMosaic Idealize.ShloMosaic.TcCoe Idealize.SL.Sem

namespace Cert.KernelIdeal.Value

open Cert.KernelIdeal Cert.KernelIdeal.Gen Cert.Row

/-- A random word without its low eight bits, converted as a signed number: the same number as unsigned. -/
theorem sitofp_shr (r : BitVec 32) :
    FloatOps.sitofp (F := Ideal) FTy.f32 (IntOp.shrui ArithUnit.vector r 8#32) = (((r >>> 8).toNat : ℝ) : EReal) := by
  rw [IntOp.shrui, if_pos (by decide)]
  show (((r >>> (8#32).toNat).toInt : ℝ) : EReal) = _
  rw [show (8#32 : BitVec 32).toNat = 8 from rfl, shr8_toInt]
  norm_cast

/-- The word that holds the eight codes of columns `8t … 8t+7`. -/
def rowWord (q : Fin 64 → BitVec 32) (t : Fin 8) : BitVec 32 :=
  Finset.fold IntOp.addi 0#32 (fun s : Fin 8 => IntOp.shli .vector (q ⟨8 * t.val + s.val, by omega⟩)
    (IntOp.muli 4#32 (BitVec.ofNat 32 s.val))) Finset.univ

variable (x0 : Vec Ideal S64x2048 .f32) (x1 : Vec Ideal S32x2048 .i8) (x2 x3 x4 : Vec Ideal S1x2048 .f32) (x5 : Vec Ideal S64x2048 .i32)

/-! ### The momentum and the step -/

/-- Lane `l`'s gradients. -/
def gcol (l : Fin 2048) : Fin 64 → EReal := fun d => x0 (ix2 d l)

/-- Lane `l`'s packed bytes. -/
def pcol (l : Fin 2048) : Fin 32 → BitVec 8 := fun j => x1 (ix2 j l)

/-- Lane `l`'s updated weights. -/
def wcol (l : Fin 2048) : Fin 64 → EReal := wnew (pcol x1 l) (x2 (ix2 0 l)) (x3 (ix2 0 l)) (x4 (ix2 0 l)) (gcol x0 l)

/-- Lane `l`'s random words. -/
def rcol (l : Fin 2048) : Fin 64 → BitVec 32 := fun d => x5 (ix2 d l)

/-- The momentum stored at a lane. -/
theorem pay15_at (l : Fin 2048) :
    k0_pay15 (k0_pay46 x0 x1 x2 x3 x4 x5) (k0_pay47 x0 x1 x2 x3 x4 x5) (k0_pay48 x0 x1 x2 x3 x4 x5) (k0_pay49 x0 x1 x2 x3 x4 x5)
      (k0_pay50 x0 x1 x2 x3 x4 x5) (View.ld x4 r0_1) (ix2 0 l) = state (x4 (ix2 0 l)) (gcol x0 l) := by
  pointwise [k0_pay15, k0_pay46, k0_pay47, k0_pay48, k0_pay49, k0_pay50, k0_pay14, k0_pay13, k0_pay12, k0_pay11, k0_pay10,
    k0_pay9, k0_pay8, k0_pay7, k0_pay6]
  rw [state, sum64, mul_64th]
  rfl

/-- The same, the momentum block read by its name rather than by a load of all of it. -/
theorem pay15_whole (l : Fin 2048) :
    k0_pay15 (k0_pay46 x0 x1 x2 x3 x4 x5) (k0_pay47 x0 x1 x2 x3 x4 x5) (k0_pay48 x0 x1 x2 x3 x4 x5) (k0_pay49 x0 x1 x2 x3 x4 x5)
      (k0_pay50 x0 x1 x2 x3 x4 x5) x4 (ix2 0 l) = state (x4 (ix2 0 l)) (gcol x0 l) := by
  pointwise [k0_pay15, k0_pay46, k0_pay47, k0_pay48, k0_pay49, k0_pay50, k0_pay14, k0_pay13, k0_pay12, k0_pay11, k0_pay10,
    k0_pay9, k0_pay8, k0_pay7, k0_pay6]
  rw [state, sum64, mul_64th]
  rfl

/-- The step, from the momentum. -/
theorem pay16_of (v19 v21 v23 v25 v34 : FVec Ideal S8x2048 .f32) (v45 : Vec Ideal S1x2048 .f32) (l : Fin 2048) :
    k0_pay16 v19 v21 v23 v25 v34 v45 (ix2 0 l) = mult (k0_pay15 v19 v21 v23 v25 v34 v45 (ix2 0 l)) := by
  pointwise [k0_pay16]
  rfl

/-- The step at a lane. -/
theorem pay16_at (l : Fin 2048) :
    k0_pay16 (k0_pay46 x0 x1 x2 x3 x4 x5) (k0_pay47 x0 x1 x2 x3 x4 x5) (k0_pay48 x0 x1 x2 x3 x4 x5) (k0_pay49 x0 x1 x2 x3 x4 x5)
      (k0_pay50 x0 x1 x2 x3 x4 x5) (View.ld x4 r0_1) (ix2 0 l) = mult (state (x4 (ix2 0 l)) (gcol x0 l)) := by
  rw [pay16_of, pay15_at]

/-- The step at a lane, under the name the later vectors read it by. -/
theorem pay51_at (l : Fin 2048) : k0_pay51 x0 x1 x2 x3 x4 x5 (ix2 0 l) = mult (state (x4 (ix2 0 l)) (gcol x0 l)) :=
  pay16_at x0 x1 x2 x3 x4 x5 l

/-! ### The weights -/

/-- The words of a lane: bit `q` of word `t` is bit `q % 8` of byte `4t + q / 8`. -/
theorem word_bit (t : Fin 8) (l : Fin 2048) (q : Nat) (hq : q < 32) (b : Fin 32) (hb : b.val = 4 * t.val + q / 8) :
    (k0_pay42 x0 x1 x2 x3 x4 x5 (ix2 t l)).getLsbD q = (pcol x1 l b).getLsbD (q % 8) := by
  have h1 : k0_pay42 x0 x1 x2 x3 x4 x5 = bitcast S8x2048 32 x1 bitcasts_S32x2048_w8_S8x2048_w32 := by
    unfold k0_pay42 k0_pay2
    have e : (shapeCast S32x2048 (View.ld x1 r0_0) shapeCasts_S32x2048_S32x2048 : IVec S32x2048 8) = x1 := by
      funext j
      idx_vars j
      pointwise
    exact congrArg (fun v => bitcast S8x2048 32 v bitcasts_S32x2048_w8_S8x2048_w32) e
  rw [h1]
  exact bitcast_8_32_getLsbD_ix2 x1 bitcasts_S32x2048_w8_S8x2048_w32 t l q hq b hb

/-- The dequantised and updated weight, from the nibble, as the kernel spells it. -/
theorem weight_eq (t : Fin 8) (s : Fin 8) (l : Fin 2048) (d : Fin 64) (hd : d.val = 8 * t.val + s.val) (mu g : EReal)
    (hmu : mu = mult (state (x4 (ix2 0 l)) (gcol x0 l))) (hg : g = x0 (ix2 d l)) :
    FloatOps.sitofp (F := Ideal) FTy.f32 (IntOp.andi (IntOp.shrsi ArithUnit.vector (k0_pay42 x0 x1 x2 x3 x4 x5 (ix2 t l))
      (IntOp.muli 4#32 (BitVec.ofNat 32 s.val))) 15#32) * x2 (ix2 0 l) + x3 (ix2 0 l) - mu * g = wcol x0 x1 x2 x3 x4 l d := by
  rw [nib_of_word (pcol x1 l) _ t.val s d hd fun q hq b hb => word_bit x0 x1 x2 x3 x4 x5 t l q hq b hb, hmu, hg]
  rfl

/-- Vector 0 of the weights. -/
theorem w0_at (s : Fin 8) (l : Fin 2048) : (k0_pay52 x0 x1 x2 x3 x4 x5) (ix2 s l) = wcol x0 x1 x2 x3 x4 l ⟨s.val, by omega⟩ := by
  pointwise [k0_pay52, k0_pay17, k0_pay6, k0_pay43, k0_pay3, k0_pay44, k0_pay4, k0_pay45, k0_pay5]
  exact weight_eq x0 x1 x2 x3 x4 x5 0 s l _ (by show s.val = 8 * 0 + s.val; omega) _ _ (pay16_at x0 x1 x2 x3 x4 x5 l) rfl

/-- Vector 1 of the weights. -/
theorem w1_at (s : Fin 8) (l : Fin 2048) : (k0_pay53 x0 x1 x2 x3 x4 x5) (ix2 s l) = wcol x0 x1 x2 x3 x4 l ⟨8 + s.val, by omega⟩ := by
  pointwise [k0_pay53, k0_pay18, k0_pay7, k0_pay43, k0_pay3, k0_pay44, k0_pay4, k0_pay45, k0_pay5]
  exact weight_eq x0 x1 x2 x3 x4 x5 1 s l _ (by show 8 + s.val = 8 * 1 + s.val; omega) _ _ (pay16_at x0 x1 x2 x3 x4 x5 l) rfl

/-- Vector 2 of the weights. -/
theorem w2_at (s : Fin 8) (l : Fin 2048) : (k0_pay54 x0 x1 x2 x3 x4 x5) (ix2 s l) = wcol x0 x1 x2 x3 x4 l ⟨16 + s.val, by omega⟩ := by
  pointwise [k0_pay54, k0_pay20, k0_pay19, k0_pay8, k0_pay43, k0_pay3, k0_pay44, k0_pay4, k0_pay45, k0_pay5]
  exact weight_eq x0 x1 x2 x3 x4 x5 2 s l _ (by show 16 + s.val = 8 * 2 + s.val; omega) _ _ (pay51_at x0 x1 x2 x3 x4 x5 l) rfl

/-- Vector 3 of the weights. -/
theorem w3_at (s : Fin 8) (l : Fin 2048) : (k0_pay55 x0 x1 x2 x3 x4 x5) (ix2 s l) = wcol x0 x1 x2 x3 x4 l ⟨24 + s.val, by omega⟩ := by
  pointwise [k0_pay55, k0_pay21, k0_pay9, k0_pay43, k0_pay3, k0_pay44, k0_pay4, k0_pay45, k0_pay5]
  exact weight_eq x0 x1 x2 x3 x4 x5 3 s l _ (by show 24 + s.val = 8 * 3 + s.val; omega) _ _ (pay51_at x0 x1 x2 x3 x4 x5 l) rfl

/-- Vector 4 of the weights. -/
theorem w4_at (s : Fin 8) (l : Fin 2048) : (k0_pay56 x0 x1 x2 x3 x4 x5) (ix2 s l) = wcol x0 x1 x2 x3 x4 l ⟨32 + s.val, by omega⟩ := by
  pointwise [k0_pay56, k0_pay22, k0_pay46, k0_pay10, k0_pay43, k0_pay3, k0_pay44, k0_pay4, k0_pay45, k0_pay5]
  exact weight_eq x0 x1 x2 x3 x4 x5 4 s l _ (by show 32 + s.val = 8 * 4 + s.val; omega) _ _ (pay51_at x0 x1 x2 x3 x4 x5 l) rfl

/-- Vector 5 of the weights. -/
theorem w5_at (s : Fin 8) (l : Fin 2048) : (k0_pay57 x0 x1 x2 x3 x4 x5) (ix2 s l) = wcol x0 x1 x2 x3 x4 l ⟨40 + s.val, by omega⟩ := by
  pointwise [k0_pay57, k0_pay23, k0_pay47, k0_pay11, k0_pay43, k0_pay3, k0_pay44, k0_pay4, k0_pay45, k0_pay5]
  exact weight_eq x0 x1 x2 x3 x4 x5 5 s l _ (by show 40 + s.val = 8 * 5 + s.val; omega) _ _ (pay51_at x0 x1 x2 x3 x4 x5 l) rfl

/-- Vector 6 of the weights. -/
theorem w6_at (s : Fin 8) (l : Fin 2048) : (k0_pay25 (k0_pay44 x0 x1 x2 x3 x4 x5) (k0_pay45 x0 x1 x2 x3 x4 x5) (k0_pay48 x0 x1 x2 x3 x4 x5) (k0_pay51 x0 x1 x2 x3 x4 x5) (k0_pay58 x0 x1 x2 x3 x4 x5)) (ix2 s l) = wcol x0 x1 x2 x3 x4 l ⟨48 + s.val, by omega⟩ := by
  pointwise [k0_pay25, k0_pay58, k0_pay24, k0_pay48, k0_pay12, k0_pay43, k0_pay3, k0_pay44, k0_pay4, k0_pay45, k0_pay5]
  exact weight_eq x0 x1 x2 x3 x4 x5 6 s l _ (by show 48 + s.val = 8 * 6 + s.val; omega) _ _ (pay51_at x0 x1 x2 x3 x4 x5 l) rfl

/-- Vector 7 of the weights. -/
theorem w7_at (s : Fin 8) (l : Fin 2048) : (k0_pay26 (k0_pay42 x0 x1 x2 x3 x4 x5) (k0_pay43 x0 x1 x2 x3 x4 x5) (k0_pay44 x0 x1 x2 x3 x4 x5) (k0_pay45 x0 x1 x2 x3 x4 x5) (k0_pay49 x0 x1 x2 x3 x4 x5) (k0_pay51 x0 x1 x2 x3 x4 x5)) (ix2 s l) = wcol x0 x1 x2 x3 x4 l ⟨56 + s.val, by omega⟩ := by
  pointwise [k0_pay26, k0_pay49, k0_pay13, k0_pay43, k0_pay3, k0_pay44, k0_pay4, k0_pay45, k0_pay5]
  exact weight_eq x0 x1 x2 x3 x4 x5 7 s l _ (by show 56 + s.val = 8 * 7 + s.val; omega) _ _ (pay51_at x0 x1 x2 x3 x4 x5 l) rfl

/-! ### The least and greatest weight, the scale and the factor -/

/-- The least weight of a lane: the bias stored there. -/
theorem pay27_at (l : Fin 2048) : k0_pay27 (k0_pay42 x0 x1 x2 x3 x4 x5) (k0_pay43 x0 x1 x2 x3 x4 x5) (k0_pay44 x0 x1 x2 x3 x4 x5) (k0_pay45 x0 x1 x2 x3 x4 x5) (k0_pay48 x0 x1 x2 x3 x4 x5) (k0_pay49 x0 x1 x2 x3 x4 x5) (k0_pay51 x0 x1 x2 x3 x4 x5) (k0_pay52 x0 x1 x2 x3 x4 x5) (k0_pay53 x0 x1 x2 x3 x4 x5) (k0_pay54 x0 x1 x2 x3 x4 x5) (k0_pay55 x0 x1 x2 x3 x4 x5) (k0_pay56 x0 x1 x2 x3 x4 x5) (k0_pay57 x0 x1 x2 x3 x4 x5) (k0_pay58 x0 x1 x2 x3 x4 x5) (ix2 0 l) = lo (wcol x0 x1 x2 x3 x4 l) := by
  pointwise [k0_pay27]
  simp only [w0_at, w1_at, w2_at, w3_at, w4_at, w5_at, w6_at, w7_at]
  exact lo64 _

/-- The least weight, under the name the later vectors read it by. -/
theorem pay59_at (l : Fin 2048) : k0_pay59 x0 x1 x2 x3 x4 x5 (ix2 0 l) = lo (wcol x0 x1 x2 x3 x4 l) := pay27_at x0 x1 x2 x3 x4 x5 l

/-- The spread of a lane's weights. -/
theorem pay28_at (l : Fin 2048) : k0_pay28 (k0_pay42 x0 x1 x2 x3 x4 x5) (k0_pay43 x0 x1 x2 x3 x4 x5) (k0_pay44 x0 x1 x2 x3 x4 x5) (k0_pay45 x0 x1 x2 x3 x4 x5) (k0_pay48 x0 x1 x2 x3 x4 x5) (k0_pay49 x0 x1 x2 x3 x4 x5) (k0_pay51 x0 x1 x2 x3 x4 x5) (k0_pay52 x0 x1 x2 x3 x4 x5) (k0_pay53 x0 x1 x2 x3 x4 x5) (k0_pay54 x0 x1 x2 x3 x4 x5) (k0_pay55 x0 x1 x2 x3 x4 x5) (k0_pay56 x0 x1 x2 x3 x4 x5) (k0_pay57 x0 x1 x2 x3 x4 x5) (k0_pay58 x0 x1 x2 x3 x4 x5) (ix2 0 l)
    = hi (wcol x0 x1 x2 x3 x4 l) - lo (wcol x0 x1 x2 x3 x4 l) := by
  pointwise [k0_pay28]
  simp only [w0_at, w1_at, w2_at, w3_at, w4_at, w5_at, w6_at, w7_at, pay27_at]
  exact congrArg (· - lo (wcol x0 x1 x2 x3 x4 l)) (hi64 _)

/-- The scale, from the spread. -/
theorem pay29_of (v2 v5 : IVec S8x2048 32) (v7 v9 : FVec Ideal S1x2048 .f32) (v23 v25 : FVec Ideal S8x2048 .f32) (v55 : FVec Ideal S1x2048 .f32) (v68 v81 v94 v107 v120 v133 : FVec Ideal S8x2048 .f32) (v138 : IVec S8x2048 32) (l : Fin 2048) : k0_pay29 v2 v5 v7 v9 v23 v25 v55 v68 v81 v94 v107 v120 v133 v138 (ix2 0 l)
    = Ideal.div (k0_pay28 v2 v5 v7 v9 v23 v25 v55 v68 v81 v94 v107 v120 v133 v138 (ix2 0 l)) (Ideal.ofBits .f32 0x41700000#32) := by
  pointwise [k0_pay29]

/-- The factor, from the spread. -/
theorem pay30_of (v2 v5 : IVec S8x2048 32) (v7 v9 : FVec Ideal S1x2048 .f32) (v23 v25 : FVec Ideal S8x2048 .f32) (v55 : FVec Ideal S1x2048 .f32) (v68 v81 v94 v107 v120 v133 : FVec Ideal S8x2048 .f32) (v138 : IVec S8x2048 32) (l : Fin 2048) : k0_pay30 v2 v5 v7 v9 v23 v25 v55 v68 v81 v94 v107 v120 v133 v138 (ix2 0 l)
    = Ideal.div (Ideal.ofBits .f32 0x41700000#32) (k0_pay28 v2 v5 v7 v9 v23 v25 v55 v68 v81 v94 v107 v120 v133 v138 (ix2 0 l) + Ideal.ofBits .f32 0x322BCC77#32) := by
  pointwise [k0_pay30]

/-- The scale stored at a lane. -/
theorem pay29_at (l : Fin 2048) : k0_pay29 (k0_pay42 x0 x1 x2 x3 x4 x5) (k0_pay43 x0 x1 x2 x3 x4 x5) (k0_pay44 x0 x1 x2 x3 x4 x5) (k0_pay45 x0 x1 x2 x3 x4 x5) (k0_pay48 x0 x1 x2 x3 x4 x5) (k0_pay49 x0 x1 x2 x3 x4 x5) (k0_pay51 x0 x1 x2 x3 x4 x5) (k0_pay52 x0 x1 x2 x3 x4 x5) (k0_pay53 x0 x1 x2 x3 x4 x5) (k0_pay54 x0 x1 x2 x3 x4 x5) (k0_pay55 x0 x1 x2 x3 x4 x5) (k0_pay56 x0 x1 x2 x3 x4 x5) (k0_pay57 x0 x1 x2 x3 x4 x5) (k0_pay58 x0 x1 x2 x3 x4 x5) (ix2 0 l) = oscale (wcol x0 x1 x2 x3 x4 l) := by
  rw [pay29_of, pay28_at]
  rfl

/-- The factor of a lane, under the name the later vectors read it by. -/
theorem pay60_at (l : Fin 2048) : k0_pay60 x0 x1 x2 x3 x4 x5 (ix2 0 l) = inv (wcol x0 x1 x2 x3 x4 l) := by
  unfold k0_pay60
  rw [pay30_of, pay28_at]
  rfl

/-! ### The codes, packed -/

/-- Lane `l`'s new codes. -/
def qcol (l : Fin 2048) : Fin 64 → BitVec 32 := code (wcol x0 x1 x2 x3 x4 l) (rcol x5 l)

/-- The seventh word of codes, which the kernel's last value computes in line. -/
def lastRow6 (v5 : IVec S8x2048 32) (v316 v321 : FVec Ideal S8x2048 .f32) : IVec S1x2048 32 :=
  shapeCast S1x2048 (multiReductionI .add [0] S2048 (shli (fptosi 32 (minimumf
    (broadcast S8x2048 (Scalar.ofBits (F := Ideal) .f32 0x41700000#32)) (maximumf
    (broadcast S8x2048 (Scalar.ofBits (F := Ideal) .f32 0x00000000#32)) (floor (addf v316 (mulf v321
    (broadcast S8x2048 (Scalar.ofBits (F := Ideal) .f32 0x33800000#32)))))))) v5) 0#32 reduces_S8x2048_S2048 rfl)
    shapeCasts_S2048_S1x2048

/-- The eighth word of codes, which the kernel's last value computes in line. -/
def lastRow7 (v5 : IVec S8x2048 32) (v159 : FVec Ideal S8x2048 .f32) (v175 v186 : FVec Ideal S1x2048 .f32) (v338 : Vec Ideal S8x2048 .i32) :
    IVec S1x2048 32 :=
  lastRow6 v5 (mulf (subf v159 (broadcastTo S8x2048 v175 broadcasts_S1x2048_S8x2048)) (broadcastTo S8x2048 v186 broadcasts_S1x2048_S8x2048))
    (sitofp .f32 (shrui (shapeCast S8x2048 v338 shapeCasts_S8x2048_S8x2048) (broadcast S8x2048 8#32)))

/-- Eight words of one lane stacked. -/
def rowsV (a0 a1 a2 a3 a4 a5 a6 a7 : IVec S1x2048 32) : IVec S8x2048 32 :=
  concatenate S8x2048 0 [⟨S1x2048, a0⟩, ⟨S1x2048, a1⟩, ⟨S1x2048, a2⟩, ⟨S1x2048, a3⟩, ⟨S1x2048, a4⟩, ⟨S1x2048, a5⟩, ⟨S1x2048, a6⟩,
    ⟨S1x2048, a7⟩] concatenates_S1x2048_S1x2048_S1x2048_S1x2048_S1x2048_S1x2048_S1x2048_S1x2048_S8x2048_d0

/-- The stored bytes are the eight words of codes, stacked and read as bytes. -/
theorem pay1_eq (v5 : IVec S8x2048 32) (v159 : FVec Ideal S8x2048 .f32) (v175 v186 : FVec Ideal S1x2048 .f32)
    (v207 v228 v249 v270 v291 v312 : IVec S1x2048 32) (v316 v321 : FVec Ideal S8x2048 .f32) (v338 : Vec Ideal S8x2048 .i32) :
    k0_pay1 v5 v159 v175 v186 v207 v228 v249 v270 v291 v312 v316 v321 v338
      = bitcast S32x2048 8 (rowsV v207 v228 v249 v270 v291 v312 (lastRow6 v5 v316 v321) (lastRow7 v5 v159 v175 v186 v338))
        bitcasts_S8x2048_w32_S32x2048_w8 := rfl

/-- Word 0 of the codes of a lane. -/
theorem row0_at (l : Fin 2048) : k0_pay31 (k0_pay43 x0 x1 x2 x3 x4 x5) (k0_pay52 x0 x1 x2 x3 x4 x5) (k0_pay59 x0 x1 x2 x3 x4 x5) (k0_pay60 x0 x1 x2 x3 x4 x5) (View.ld x5 r0_2) (ix2 0 l)
    = rowWord (qcol x0 x1 x2 x3 x4 x5 l) 0 := by
  pointwise [k0_pay31, k0_pay43, k0_pay3]
  simp only [w0_at, pay59_at, pay60_at, sitofp_shr]
  rw [rowWord]
  refine Finset.fold_congr fun s _ => ?_
  have e : (⟨8 * (0 : Fin 8).val + s.val, by omega⟩ : Fin 64) = ⟨s.val, by omega⟩ := Fin.ext (by show 8 * 0 + s.val = s.val; omega)
  rw [e]
  rfl

/-- Word 1 of the codes of a lane. -/
theorem row1_at (l : Fin 2048) : k0_pay32 (k0_pay43 x0 x1 x2 x3 x4 x5) (k0_pay53 x0 x1 x2 x3 x4 x5) (k0_pay59 x0 x1 x2 x3 x4 x5) (k0_pay60 x0 x1 x2 x3 x4 x5) (View.ld x5 r0_3) (ix2 0 l)
    = rowWord (qcol x0 x1 x2 x3 x4 x5 l) 1 := by
  pointwise [k0_pay32, k0_pay43, k0_pay3]
  simp only [w1_at, pay59_at, pay60_at, sitofp_shr]
  rw [rowWord]
  refine Finset.fold_congr fun s _ => ?_
  have e : (⟨8 * (1 : Fin 8).val + s.val, by omega⟩ : Fin 64) = ⟨8 + s.val, by omega⟩ := Fin.ext (by show 8 * 1 + s.val = 8 + s.val; omega)
  rw [e]
  rfl

/-- Word 2 of the codes of a lane. -/
theorem row2_at (l : Fin 2048) : k0_pay34 (k0_pay43 x0 x1 x2 x3 x4 x5) (k0_pay33 (k0_pay54 x0 x1 x2 x3 x4 x5) (k0_pay59 x0 x1 x2 x3 x4 x5) (k0_pay60 x0 x1 x2 x3 x4 x5)) (View.ld x5 r0_4) (ix2 0 l)
    = rowWord (qcol x0 x1 x2 x3 x4 x5 l) 2 := by
  pointwise [k0_pay34, k0_pay33, k0_pay43, k0_pay3]
  simp only [w2_at, pay59_at, pay60_at, sitofp_shr]
  rw [rowWord]
  refine Finset.fold_congr fun s _ => ?_
  have e : (⟨8 * (2 : Fin 8).val + s.val, by omega⟩ : Fin 64) = ⟨16 + s.val, by omega⟩ := Fin.ext (by show 8 * 2 + s.val = 16 + s.val; omega)
  rw [e]
  rfl

/-- Word 3 of the codes of a lane. -/
theorem row3_at (l : Fin 2048) : k0_pay35 (k0_pay43 x0 x1 x2 x3 x4 x5) (k0_pay55 x0 x1 x2 x3 x4 x5) (k0_pay59 x0 x1 x2 x3 x4 x5) (k0_pay60 x0 x1 x2 x3 x4 x5) (View.ld x5 r0_5) (ix2 0 l)
    = rowWord (qcol x0 x1 x2 x3 x4 x5 l) 3 := by
  pointwise [k0_pay35, k0_pay43, k0_pay3]
  simp only [w3_at, pay59_at, pay60_at, sitofp_shr]
  rw [rowWord]
  refine Finset.fold_congr fun s _ => ?_
  have e : (⟨8 * (3 : Fin 8).val + s.val, by omega⟩ : Fin 64) = ⟨24 + s.val, by omega⟩ := Fin.ext (by show 8 * 3 + s.val = 24 + s.val; omega)
  rw [e]
  rfl

/-- Word 4 of the codes of a lane. -/
theorem row4_at (l : Fin 2048) : k0_pay38 (k0_pay43 x0 x1 x2 x3 x4 x5) (k0_pay36 (k0_pay56 x0 x1 x2 x3 x4 x5) (k0_pay59 x0 x1 x2 x3 x4 x5) (k0_pay60 x0 x1 x2 x3 x4 x5)) (k0_pay37 (View.ld x5 r0_6)) (ix2 0 l)
    = rowWord (qcol x0 x1 x2 x3 x4 x5 l) 4 := by
  pointwise [k0_pay38, k0_pay36, k0_pay37, k0_pay43, k0_pay3]
  simp only [w4_at, pay59_at, pay60_at, sitofp_shr]
  rw [rowWord]
  refine Finset.fold_congr fun s _ => ?_
  have e : (⟨8 * (4 : Fin 8).val + s.val, by omega⟩ : Fin 64) = ⟨32 + s.val, by omega⟩ := Fin.ext (by show 8 * 4 + s.val = 32 + s.val; omega)
  rw [e]
  rfl

/-- Word 5 of the codes of a lane. -/
theorem row5_at (l : Fin 2048) : k0_pay39 (k0_pay43 x0 x1 x2 x3 x4 x5) (k0_pay57 x0 x1 x2 x3 x4 x5) (k0_pay59 x0 x1 x2 x3 x4 x5) (k0_pay60 x0 x1 x2 x3 x4 x5) (View.ld x5 r0_7) (ix2 0 l)
    = rowWord (qcol x0 x1 x2 x3 x4 x5 l) 5 := by
  pointwise [k0_pay39, k0_pay43, k0_pay3]
  simp only [w5_at, pay59_at, pay60_at, sitofp_shr]
  rw [rowWord]
  refine Finset.fold_congr fun s _ => ?_
  have e : (⟨8 * (5 : Fin 8).val + s.val, by omega⟩ : Fin 64) = ⟨40 + s.val, by omega⟩ := Fin.ext (by show 8 * 5 + s.val = 40 + s.val; omega)
  rw [e]
  rfl

/-- Word 6 of the codes of a lane. -/
theorem row6_at (l : Fin 2048) : lastRow6 (k0_pay43 x0 x1 x2 x3 x4 x5) (k0_pay40 (k0_pay25 (k0_pay44 x0 x1 x2 x3 x4 x5) (k0_pay45 x0 x1 x2 x3 x4 x5) (k0_pay48 x0 x1 x2 x3 x4 x5) (k0_pay51 x0 x1 x2 x3 x4 x5) (k0_pay58 x0 x1 x2 x3 x4 x5)) (k0_pay59 x0 x1 x2 x3 x4 x5) (k0_pay60 x0 x1 x2 x3 x4 x5)) (k0_pay41 (View.ld x5 r0_8)) (ix2 0 l)
    = rowWord (qcol x0 x1 x2 x3 x4 x5 l) 6 := by
  pointwise [lastRow6, k0_pay40, k0_pay41, k0_pay43, k0_pay3]
  simp only [w6_at, pay59_at, pay60_at, sitofp_shr]
  rw [rowWord]
  refine Finset.fold_congr fun s _ => ?_
  have e : (⟨8 * (6 : Fin 8).val + s.val, by omega⟩ : Fin 64) = ⟨48 + s.val, by omega⟩ := Fin.ext (by show 8 * 6 + s.val = 48 + s.val; omega)
  rw [e]
  rfl

/-- Word 7 of the codes of a lane. -/
theorem row7_at (l : Fin 2048) : lastRow7 (k0_pay43 x0 x1 x2 x3 x4 x5) (k0_pay26 (k0_pay42 x0 x1 x2 x3 x4 x5) (k0_pay43 x0 x1 x2 x3 x4 x5) (k0_pay44 x0 x1 x2 x3 x4 x5) (k0_pay45 x0 x1 x2 x3 x4 x5) (k0_pay49 x0 x1 x2 x3 x4 x5) (k0_pay51 x0 x1 x2 x3 x4 x5)) (k0_pay59 x0 x1 x2 x3 x4 x5) (k0_pay60 x0 x1 x2 x3 x4 x5) (View.ld x5 r0_9) (ix2 0 l)
    = rowWord (qcol x0 x1 x2 x3 x4 x5 l) 7 := by
  generalize hv : (k0_pay26 (k0_pay42 x0 x1 x2 x3 x4 x5) (k0_pay43 x0 x1 x2 x3 x4 x5) (k0_pay44 x0 x1 x2 x3 x4 x5) (k0_pay45 x0 x1 x2 x3 x4 x5) (k0_pay49 x0 x1 x2 x3 x4 x5) (k0_pay51 x0 x1 x2 x3 x4 x5)) = v
  pointwise [lastRow7, lastRow6, k0_pay43, k0_pay3]
  subst hv
  simp only [w7_at, pay59_at, pay60_at, sitofp_shr]
  rw [rowWord]
  refine Finset.fold_congr fun s _ => ?_
  have e : (⟨8 * (7 : Fin 8).val + s.val, by omega⟩ : Fin 64) = ⟨56 + s.val, by omega⟩ := Fin.ext (by show 8 * 7 + s.val = 56 + s.val; omega)
  rw [e]
  rfl

/-- The stacked words at a row and lane. -/
theorem rowsV_at (a0 a1 a2 a3 a4 a5 a6 a7 : IVec S1x2048 32) (f : Fin 8 → BitVec 32) (l : Fin 2048) (h0 : a0 (ix2 0 l) = f 0)
    (h1 : a1 (ix2 0 l) = f 1) (h2 : a2 (ix2 0 l) = f 2) (h3 : a3 (ix2 0 l) = f 3) (h4 : a4 (ix2 0 l) = f 4) (h5 : a5 (ix2 0 l) = f 5)
    (h6 : a6 (ix2 0 l) = f 6) (h7 : a7 (ix2 0 l) = f 7) (t : Fin 8) : rowsV a0 a1 a2 a3 a4 a5 a6 a7 (ix2 t l) = f t := by
  fin_cases t
  · refine Eq.trans ?_ h0; pointwise [rowsV]
  · refine Eq.trans ?_ h1; pointwise [rowsV]
  · refine Eq.trans ?_ h2; pointwise [rowsV]
  · refine Eq.trans ?_ h3; pointwise [rowsV]
  · refine Eq.trans ?_ h4; pointwise [rowsV]
  · refine Eq.trans ?_ h5; pointwise [rowsV]
  · refine Eq.trans ?_ h6; pointwise [rowsV]
  · refine Eq.trans ?_ h7; pointwise [rowsV]

/-- The bytes stored at a lane: the row's packed bytes. -/
theorem pay1_at (j : Fin 32) (l : Fin 2048) : k0_pay1 (k0_pay43 x0 x1 x2 x3 x4 x5) (k0_pay26 (k0_pay42 x0 x1 x2 x3 x4 x5) (k0_pay43 x0 x1 x2 x3 x4 x5) (k0_pay44 x0 x1 x2 x3 x4 x5) (k0_pay45 x0 x1 x2 x3 x4 x5) (k0_pay49 x0 x1 x2 x3 x4 x5) (k0_pay51 x0 x1 x2 x3 x4 x5)) (k0_pay59 x0 x1 x2 x3 x4 x5) (k0_pay60 x0 x1 x2 x3 x4 x5) (k0_pay31 (k0_pay43 x0 x1 x2 x3 x4 x5) (k0_pay52 x0 x1 x2 x3 x4 x5) (k0_pay59 x0 x1 x2 x3 x4 x5) (k0_pay60 x0 x1 x2 x3 x4 x5) (View.ld x5 r0_2)) (k0_pay32 (k0_pay43 x0 x1 x2 x3 x4 x5) (k0_pay53 x0 x1 x2 x3 x4 x5) (k0_pay59 x0 x1 x2 x3 x4 x5) (k0_pay60 x0 x1 x2 x3 x4 x5) (View.ld x5 r0_3)) (k0_pay34 (k0_pay43 x0 x1 x2 x3 x4 x5) (k0_pay33 (k0_pay54 x0 x1 x2 x3 x4 x5) (k0_pay59 x0 x1 x2 x3 x4 x5) (k0_pay60 x0 x1 x2 x3 x4 x5)) (View.ld x5 r0_4)) (k0_pay35 (k0_pay43 x0 x1 x2 x3 x4 x5) (k0_pay55 x0 x1 x2 x3 x4 x5) (k0_pay59 x0 x1 x2 x3 x4 x5) (k0_pay60 x0 x1 x2 x3 x4 x5) (View.ld x5 r0_5)) (k0_pay38 (k0_pay43 x0 x1 x2 x3 x4 x5) (k0_pay36 (k0_pay56 x0 x1 x2 x3 x4 x5) (k0_pay59 x0 x1 x2 x3 x4 x5) (k0_pay60 x0 x1 x2 x3 x4 x5)) (k0_pay37 (View.ld x5 r0_6))) (k0_pay39 (k0_pay43 x0 x1 x2 x3 x4 x5) (k0_pay57 x0 x1 x2 x3 x4 x5) (k0_pay59 x0 x1 x2 x3 x4 x5) (k0_pay60 x0 x1 x2 x3 x4 x5) (View.ld x5 r0_7))
    (k0_pay40 (k0_pay25 (k0_pay44 x0 x1 x2 x3 x4 x5) (k0_pay45 x0 x1 x2 x3 x4 x5) (k0_pay48 x0 x1 x2 x3 x4 x5) (k0_pay51 x0 x1 x2 x3 x4 x5) (k0_pay58 x0 x1 x2 x3 x4 x5)) (k0_pay59 x0 x1 x2 x3 x4 x5) (k0_pay60 x0 x1 x2 x3 x4 x5)) (k0_pay41 (View.ld x5 r0_8)) (View.ld x5 r0_9) (ix2 j l)
      = byte (qcol x0 x1 x2 x3 x4 x5 l) j := by
  rw [pay1_eq]
  refine byte_of_word (qcol x0 x1 x2 x3 x4 x5 l) (fun d => code_lt _ _ d) j _ (rowWord (qcol x0 x1 x2 x3 x4 x5 l) ⟨j.val / 4, by omega⟩) rfl fun i hi => ?_
  rw [← rowsV_at _ _ _ _ _ _ _ _ (rowWord (qcol x0 x1 x2 x3 x4 x5 l)) l (row0_at x0 x1 x2 x3 x4 x5 l) (row1_at x0 x1 x2 x3 x4 x5 l) (row2_at x0 x1 x2 x3 x4 x5 l) (row3_at x0 x1 x2 x3 x4 x5 l)
    (row4_at x0 x1 x2 x3 x4 x5 l) (row5_at x0 x1 x2 x3 x4 x5 l) (row6_at x0 x1 x2 x3 x4 x5 l) (row7_at x0 x1 x2 x3 x4 x5 l) ⟨j.val / 4, by omega⟩]
  exact bitcast_32_8_getLsbD_ix2 _ bitcasts_S8x2048_w32_S32x2048_w8 j l i hi ⟨j.val / 4, by omega⟩ rfl

end Cert.KernelIdeal.Value
-- ==== Proof.Arrays.lean ====
/-
  What the six arrays that the kernel's grid reads hold when it starts: the host lines before it sum the gradients by row and fetch
  the packed bytes, the scale, the bias and the momentum of the rows named by `uniq_ids`; then each is laid out with the rows along
  the lanes. The arrays are named here, in the host program's own operations, as functions of the arguments.
-/
module

public import proofs.«01_k».proof.Proof.Gen.KernelIdeal.Frame
public import proofs.«01_k».proof.Proof.Row
public import Idealize.ShloMosaic.Lib.Claim
public import Idealize.ShloMosaic.Lib.StableHlo.RunRead

@[expose] public section

set_option maxRecDepth 65536

noncomputable section

open Idealize.ShloMosaic Idealize.ShloMosaic.TcCoe Idealize.SL.Sem

namespace Cert.KernelIdeal.Value

open Cert.KernelIdeal Cert.KernelIdeal.Gen

/-- The row numbers as the host reads them: a negative one counts from the end of the table. -/
def idsV (A4 : IVec S98304 32) : IVec S98304x1 32 :=
  broadcastInDim S98304x1 ![0] bcast_S98304_S98304x1_0 (select (cmpi .slt A4 (broadcastInDim S98304 ![] bcast_S_S98304 (constantI S_ 32 0#32))) (addi A4 (broadcastInDim S98304 ![] bcast_S_S98304 (constantI S_ 32 6000000#32))) A4)

/-- The gradient of every fetched row: each sample's gradient added into the rows that it names. -/
def gradV (A5 : IVec S3072x128 32) (A6 : FVec Ideal S3072x64 .f32) : FVec Ideal S98304x64 .f32 :=
  Host.scatterAdd scatter_S98304x64_S393216x1_S393216x64_1_0_0_1 (broadcastInDim S98304x64 ![] bcast_S_S98304x64 (constant S_ .f32 0x00000000#32))
    (broadcastInDim S393216x1 ![0] bcast_S393216_S393216x1_0 (shapeCast _ A5 shapeCasts_S3072x128_S393216))
    (shapeCast _ (broadcastInDim S3072x128x64 ![0, 1, 2] bcast_S3072x1x64_S3072x128x64_0_1_2 (broadcastInDim S3072x1x64 ![0, 2] bcast_S3072x64_S3072x1x64_0_2 A6)) shapeCasts_S3072x128x64_S393216x64)

/-- The fetched rows' packed bytes. -/
def packedV (A0 : IVec S6000000x32 8) (A4 : IVec S98304 32) : IVec S98304x32 8 :=
  Host.gather gather_S6000000x32_S98304x1_S98304x32_1_0_n_n_0_1_132 A0 (idsV A4)

/-- One number per fetched row, from a table of one number per row. -/
def fieldV (A : FVec Ideal S6000000 .f32) (A4 : IVec S98304 32) : FVec Ideal S98304 .f32 :=
  Host.gather gather_S6000000_S98304x1_S98304_n_0_n_n_0_1_1 A (idsV A4)

variable (m : (ℓ : Loc nD τ sig) → Buf (Elt Ideal) ℓ)

/-- The gradients the grid reads. -/
theorem V_grad (c : Dev nD) : V m c main_v14
    = transpose S64x98304 [1, 0] (gradV (m ((c.tc : Thread nD τ).loc main_arg5)) (m ((c.tc : Thread nD τ).loc main_arg6))) transposes_S98304x64_S64x98304_1_0 := by
  unfold V V0
  simp only [List.flatten_cons, List.flatten_nil, List.append_nil]
  after_reads_simp
  rfl

/-- The packed bytes the grid reads. -/
theorem V_packed (c : Dev nD) : V m c main_v15
    = transpose S32x98304 [1, 0] (packedV (m ((c.tc : Thread nD τ).loc main_arg0)) (m ((c.tc : Thread nD τ).loc main_arg4))) transposes_S98304x32_S32x98304_1_0 := by
  unfold V V0
  simp only [List.flatten_cons, List.flatten_nil, List.append_nil]
  after_reads_simp
  rfl

/-- The scales the grid reads. -/
theorem V_scale (c : Dev nD) : V m c main_v23
    = shapeCast S1x98304 (fieldV (m ((c.tc : Thread nD τ).loc main_arg1)) (m ((c.tc : Thread nD τ).loc main_arg4))) shapeCasts_S98304_S1x98304 := by
  unfold V V0
  simp only [List.flatten_cons, List.flatten_nil, List.append_nil]
  after_reads_simp
  rfl

/-- The biases the grid reads. -/
theorem V_bias (c : Dev nD) : V m c main_v31
    = shapeCast S1x98304 (fieldV (m ((c.tc : Thread nD τ).loc main_arg2)) (m ((c.tc : Thread nD τ).loc main_arg4))) shapeCasts_S98304_S1x98304 := by
  unfold V V0
  simp only [List.flatten_cons, List.flatten_nil, List.append_nil]
  after_reads_simp
  rfl

/-- The momenta the grid reads. -/
theorem V_mom (c : Dev nD) : V m c main_v39
    = shapeCast S1x98304 (fieldV (m ((c.tc : Thread nD τ).loc main_arg3)) (m ((c.tc : Thread nD τ).loc main_arg4))) shapeCasts_S98304_S1x98304 := by
  unfold V V0
  simp only [List.flatten_cons, List.flatten_nil, List.append_nil]
  after_reads_simp
  rfl

/-- The random words the grid reads. -/
theorem V_rand (c : Dev nD) : V m c main_v40
    = transpose S64x98304 [1, 0] (m ((c.tc : Thread nD τ).loc main_arg7)) transposes_S98304x64_S64x98304_1_0 := by
  unfold V V0
  simp only [List.flatten_cons, List.flatten_nil, List.append_nil]
  after_reads_simp

end Cert.KernelIdeal.Value
end
-- ==== Proof.Final.lean ====
/-
  What the kernel's four output arrays hold when it returns, over the host arrays of `Arrays.lean`. Lane `l` of grid point `t` is
  row `2048 t + l`; the six input blocks hold that row of the six arrays, so (`Block.lean`) the four output blocks hold the row
  functions of that row, and the 48 grid points together write every row once.
-/
module

public import proofs.«01_k».proof.Proof.Block
public import proofs.«01_k».proof.Proof.Arrays

@[expose] public section

set_option maxRecDepth 65536

noncomputable section

open Idealize.ShloMosaic Idealize.ShloMosaic.TcCoe Idealize.SL.Sem

namespace Cert.KernelIdeal.Value

open Cert.KernelIdeal Cert.KernelIdeal.Gen Cert.Row

variable (m : (ℓ : Loc nD τ sig) → Buf (Elt Ideal) ℓ)

/-! ### Which row a lane works on -/

/-- At grid point `t` window 0 is the `t`-th stretch of 2048 lanes of its array. -/
theorem idx0 : ∀ t : Fin cfg0.N, win0_0.index t = ![0, t.val] := (by decide +kernel : ∀ t : Fin grid0.N, _)

/-- At grid point `t` window 1 is the `t`-th stretch of 2048 lanes of its array. -/
theorem idx1 : ∀ t : Fin cfg0.N, win0_1.index t = ![0, t.val] := (by decide +kernel : ∀ t : Fin grid0.N, _)

/-- At grid point `t` window 2 is the `t`-th stretch of 2048 lanes of its array. -/
theorem idx2 : ∀ t : Fin cfg0.N, win0_2.index t = ![0, t.val] := (by decide +kernel : ∀ t : Fin grid0.N, _)

/-- At grid point `t` window 3 is the `t`-th stretch of 2048 lanes of its array. -/
theorem idx3 : ∀ t : Fin cfg0.N, win0_3.index t = ![0, t.val] := (by decide +kernel : ∀ t : Fin grid0.N, _)

/-- At grid point `t` window 4 is the `t`-th stretch of 2048 lanes of its array. -/
theorem idx4 : ∀ t : Fin cfg0.N, win0_4.index t = ![0, t.val] := (by decide +kernel : ∀ t : Fin grid0.N, _)

/-- At grid point `t` window 5 is the `t`-th stretch of 2048 lanes of its array. -/
theorem idx5 : ∀ t : Fin cfg0.N, win0_5.index t = ![0, t.val] := (by decide +kernel : ∀ t : Fin grid0.N, _)

/-- At grid point `t` window 6 is the `t`-th stretch of 2048 lanes of its array. -/
theorem idx6 : ∀ t : Fin cfg0.N, win0_6.index t = ![0, t.val] := (by decide +kernel : ∀ t : Fin grid0.N, _)

/-- At grid point `t` window 7 is the `t`-th stretch of 2048 lanes of its array. -/
theorem idx7 : ∀ t : Fin cfg0.N, win0_7.index t = ![0, t.val] := (by decide +kernel : ∀ t : Fin grid0.N, _)

/-- At grid point `t` window 8 is the `t`-th stretch of 2048 lanes of its array. -/
theorem idx8 : ∀ t : Fin cfg0.N, win0_8.index t = ![0, t.val] := (by decide +kernel : ∀ t : Fin grid0.N, _)

/-- At grid point `t` window 9 is the `t`-th stretch of 2048 lanes of its array. -/
theorem idx9 : ∀ t : Fin cfg0.N, win0_9.index t = ![0, t.val] := (by decide +kernel : ∀ t : Fin grid0.N, _)

/-- The row that lane `l` of grid point `t` works on. -/
def rowOf (t : Fin cfg0.N) (l : Fin 2048) : Fin 98304 := ⟨t.val * 2048 + l.val, by have h : t.val < 48 := t.isLt; omega⟩

/-! ### Reading the laid-out arrays -/

/-- A transposed array of 64 columns. -/
theorem transpose64_at {α : EltTy} (X : Vec Ideal S98304x64 α) (d : Fin 64) (r : Fin 98304) :
    transpose S64x98304 [1, 0] X transposes_S98304x64_S64x98304_1_0 (ix2 d r) = X (ix2 r d) := by
  pointwise

/-- A transposed array of 32 columns. -/
theorem transpose32_at {α : EltTy} (X : Vec Ideal S98304x32 α) (d : Fin 32) (r : Fin 98304) :
    transpose S32x98304 [1, 0] X transposes_S98304x32_S32x98304_1_0 (ix2 d r) = X (ix2 r d) := by
  pointwise

/-- A vector laid out as one row. -/
theorem asRow_at (X : FVec Ideal S98304 .f32) (r : Fin 98304) : shapeCast S1x98304 X shapeCasts_S98304_S1x98304 (ix2 0 r) = X (ix1 r) := by
  pointwise

/-! ### The host arrays the grid reads, at a launch -/

/-- The gradients of the fetched rows. -/
def grads (c : Dev nD) : FVec Ideal S98304x64 .f32 := gradV (m ((c.tc : Thread nD τ).loc main_arg5)) (m ((c.tc : Thread nD τ).loc main_arg6))

/-- The packed bytes of the fetched rows. -/
def packeds (c : Dev nD) : IVec S98304x32 8 := packedV (m ((c.tc : Thread nD τ).loc main_arg0)) (m ((c.tc : Thread nD τ).loc main_arg4))

/-- The scales of the fetched rows. -/
def scales (c : Dev nD) : FVec Ideal S98304 .f32 := fieldV (m ((c.tc : Thread nD τ).loc main_arg1)) (m ((c.tc : Thread nD τ).loc main_arg4))

/-- The biases of the fetched rows. -/
def biases (c : Dev nD) : FVec Ideal S98304 .f32 := fieldV (m ((c.tc : Thread nD τ).loc main_arg2)) (m ((c.tc : Thread nD τ).loc main_arg4))

/-- The momenta of the fetched rows. -/
def moms (c : Dev nD) : FVec Ideal S98304 .f32 := fieldV (m ((c.tc : Thread nD τ).loc main_arg3)) (m ((c.tc : Thread nD τ).loc main_arg4))

/-- The random words. -/
def rands (c : Dev nD) : IVec S98304x64 32 := m ((c.tc : Thread nD τ).loc main_arg7)

/-- Row `r`'s gradients. -/
def gRow (c : Dev nD) (r : Fin 98304) : Fin 64 → EReal := fun d => grads m c (ix2 r d)

/-- Row `r`'s random words. -/
def rRow (c : Dev nD) (r : Fin 98304) : Fin 64 → BitVec 32 := fun d => rands m c (ix2 r d)

/-- Row `r`'s updated weights. -/
def wRow (c : Dev nD) (r : Fin 98304) : Fin 64 → EReal :=
  wnew (fun j => packeds m c (ix2 r j)) (scales m c (ix1 r)) (biases m c (ix1 r)) (moms m c (ix1 r)) (gRow m c r)

/-! ### The input blocks, at a lane -/

/-- Window 0 at a lane: the gradients of that lane's row. -/
theorem blk0_at (c : Dev nD) (t : Fin cfg0.N) (d : Fin 64) (l : Fin 2048) : iblk m c 0 t (ix2 d l) = grads m c (ix2 (rowOf t l) d) := by
  have h : iblk m c 0 t (ix2 d l) = V m c main_v14 (ix2 d (rowOf t l)) :=
    congrArg (V m c main_v14) (by blk_ext [rowOf, idx0 t] : (win0_0.blk t).view.emb (ix2 d l) = ix2 d (rowOf t l))
  have e : V m c main_v14 = transpose S64x98304 [1, 0] (grads m c) transposes_S98304x64_S64x98304_1_0 := V_grad m c
  rw [h, e]
  exact transpose64_at (α := .f32) (grads m c) d _

/-- Window 1 at a lane: the packed bytes of that lane's row. -/
theorem blk1_at (c : Dev nD) (t : Fin cfg0.N) (d : Fin 32) (l : Fin 2048) : iblk m c 1 t (ix2 d l) = packeds m c (ix2 (rowOf t l) d) := by
  have h : iblk m c 1 t (ix2 d l) = V m c main_v15 (ix2 d (rowOf t l)) :=
    congrArg (V m c main_v15) (by blk_ext [rowOf, idx1 t] : (win0_1.blk t).view.emb (ix2 d l) = ix2 d (rowOf t l))
  have e : V m c main_v15 = transpose S32x98304 [1, 0] (packeds m c) transposes_S98304x32_S32x98304_1_0 := V_packed m c
  rw [h, e]
  exact transpose32_at (α := .i8) (packeds m c) d _

/-- Window 2 at a lane: the scale of that lane's row. -/
theorem blk2_at (c : Dev nD) (t : Fin cfg0.N) (l : Fin 2048) : iblk m c 2 t (ix2 0 l) = scales m c (ix1 (rowOf t l)) := by
  have h : iblk m c 2 t (ix2 0 l) = V m c main_v23 (ix2 0 (rowOf t l)) :=
    congrArg (V m c main_v23) (by blk_ext [rowOf, idx2 t] : (win0_2.blk t).view.emb (ix2 0 l) = ix2 0 (rowOf t l))
  have e : V m c main_v23 = shapeCast S1x98304 (scales m c) shapeCasts_S98304_S1x98304 := V_scale m c
  rw [h, e]
  exact asRow_at (scales m c) _

/-- Window 3 at a lane: the bias of that lane's row. -/
theorem blk3_at (c : Dev nD) (t : Fin cfg0.N) (l : Fin 2048) : iblk m c 3 t (ix2 0 l) = biases m c (ix1 (rowOf t l)) := by
  have h : iblk m c 3 t (ix2 0 l) = V m c main_v31 (ix2 0 (rowOf t l)) :=
    congrArg (V m c main_v31) (by blk_ext [rowOf, idx3 t] : (win0_3.blk t).view.emb (ix2 0 l) = ix2 0 (rowOf t l))
  have e : V m c main_v31 = shapeCast S1x98304 (biases m c) shapeCasts_S98304_S1x98304 := V_bias m c
  rw [h, e]
  exact asRow_at (biases m c) _

/-- Window 4 at a lane: the momentum of that lane's row. -/
theorem blk4_at (c : Dev nD) (t : Fin cfg0.N) (l : Fin 2048) : iblk m c 4 t (ix2 0 l) = moms m c (ix1 (rowOf t l)) := by
  have h : iblk m c 4 t (ix2 0 l) = V m c main_v39 (ix2 0 (rowOf t l)) :=
    congrArg (V m c main_v39) (by blk_ext [rowOf, idx4 t] : (win0_4.blk t).view.emb (ix2 0 l) = ix2 0 (rowOf t l))
  have e : V m c main_v39 = shapeCast S1x98304 (moms m c) shapeCasts_S98304_S1x98304 := V_mom m c
  rw [h, e]
  exact asRow_at (moms m c) _

/-- Window 5 at a lane: the random words of that lane's row. -/
theorem blk5_at (c : Dev nD) (t : Fin cfg0.N) (d : Fin 64) (l : Fin 2048) : iblk m c 5 t (ix2 d l) = rands m c (ix2 (rowOf t l) d) := by
  have h : iblk m c 5 t (ix2 d l) = V m c main_v40 (ix2 d (rowOf t l)) :=
    congrArg (V m c main_v40) (by blk_ext [rowOf, idx5 t] : (win0_5.blk t).view.emb (ix2 d l) = ix2 d (rowOf t l))
  have e : V m c main_v40 = transpose S64x98304 [1, 0] (rands m c) transposes_S98304x64_S64x98304_1_0 := V_rand m c
  rw [h, e]
  exact transpose64_at (α := .i32) (rands m c) d _

/-- A lane's gradients are its row's. -/
theorem gcol_eq (c : Dev nD) (t : Fin cfg0.N) (l : Fin 2048) : gcol (iblk m c 0 t) l = gRow m c (rowOf t l) :=
  funext fun d => blk0_at m c t d l

/-- A lane's random words are its row's. -/
theorem rcol_eq (c : Dev nD) (t : Fin cfg0.N) (l : Fin 2048) : rcol (iblk m c 5 t) l = rRow m c (rowOf t l) :=
  funext fun d => blk5_at m c t d l

/-- A lane's packed bytes are its row's. -/
theorem pcol_eq (c : Dev nD) (t : Fin cfg0.N) (l : Fin 2048) : pcol (iblk m c 1 t) l = fun j => packeds m c (ix2 (rowOf t l) j) :=
  funext fun d => blk1_at m c t d l

/-- A lane's updated weights are its row's. -/
theorem wcol_eq (c : Dev nD) (t : Fin cfg0.N) (l : Fin 2048) :
    wcol (iblk m c 0 t) (iblk m c 1 t) (iblk m c 2 t) (iblk m c 3 t) (iblk m c 4 t) l = wRow m c (rowOf t l) := by
  unfold wcol wRow
  rw [gcol_eq, pcol_eq, blk2_at, blk3_at, blk4_at]

/-- A lane's new codes are its row's. -/
theorem qcol_eq (c : Dev nD) (t : Fin cfg0.N) (l : Fin 2048) :
    qcol (iblk m c 0 t) (iblk m c 1 t) (iblk m c 2 t) (iblk m c 3 t) (iblk m c 4 t) (iblk m c 5 t) l
      = code (wRow m c (rowOf t l)) (rRow m c (rowOf t l)) := by
  unfold qcol
  rw [wcol_eq, rcol_eq]

/-! ### The output arrays -/

/-- The new bytes, with the rows along the lanes. -/
theorem final6 (c : Dev nD) : (dats m 0 c).arrAt 6 (cfgs 0).N = fun i : S32x98304.Idx => byte (code (wRow m c (i 1)) (rRow m c (i 1))) (i 0) := by
  refine (dats m 0 c).arrAt_eq_of_covers 6 _ (by decide +kernel) fun t _ y => ?_
  blk_simp
  rw [after0_6]; frame_out
  idx_vars y
  have h : (win0_6.blk t).view.emb (ix2 y0 y1) = ix2 y0 (rowOf t y1) := by blk_ext [rowOf, idx6 t]
  refine (pay1_at (iblk m c 0 t) (iblk m c 1 t) (iblk m c 2 t) (iblk m c 3 t) (iblk m c 4 t) (iblk m c 5 t) y0 y1).trans ?_
  rw [qcol_eq]
  exact (congrArg (fun i : S32x98304.Idx => byte (code (wRow m c (i 1)) (rRow m c (i 1))) (i 0)) h).symm

/-- The new scales, with the rows along the lanes. -/
theorem final7 (c : Dev nD) : (dats m 0 c).arrAt 7 (cfgs 0).N = fun i : S1x98304.Idx => oscale (wRow m c (i 1)) := by
  refine (dats m 0 c).arrAt_eq_of_covers 7 _ (by decide +kernel) fun t _ y => ?_
  blk_simp
  rw [after0_7]; frame_out
  idx_vars y
  obtain rfl : y0 = 0 := Subsingleton.elim _ _
  have h : (win0_7.blk t).view.emb (ix2 0 y1) = ix2 0 (rowOf t y1) := by blk_ext [rowOf, idx7 t]
  refine (pay29_at (iblk m c 0 t) (iblk m c 1 t) (iblk m c 2 t) (iblk m c 3 t) (iblk m c 4 t) (iblk m c 5 t) y1).trans ?_
  rw [wcol_eq]
  exact (congrArg (fun i : S1x98304.Idx => oscale (wRow m c (i 1))) h).symm

/-- The new biases, with the rows along the lanes. -/
theorem final8 (c : Dev nD) : (dats m 0 c).arrAt 8 (cfgs 0).N = fun i : S1x98304.Idx => lo (wRow m c (i 1)) := by
  refine (dats m 0 c).arrAt_eq_of_covers 8 _ (by decide +kernel) fun t _ y => ?_
  blk_simp
  rw [after0_8]; frame_out
  idx_vars y
  obtain rfl : y0 = 0 := Subsingleton.elim _ _
  have h : (win0_8.blk t).view.emb (ix2 0 y1) = ix2 0 (rowOf t y1) := by blk_ext [rowOf, idx8 t]
  refine (pay27_at (iblk m c 0 t) (iblk m c 1 t) (iblk m c 2 t) (iblk m c 3 t) (iblk m c 4 t) (iblk m c 5 t) y1).trans ?_
  rw [wcol_eq]
  exact (congrArg (fun i : S1x98304.Idx => lo (wRow m c (i 1))) h).symm

/-- The new momenta, with the rows along the lanes. -/
theorem final9 (c : Dev nD) : (dats m 0 c).arrAt 9 (cfgs 0).N = fun i : S1x98304.Idx => state (moms m c (ix1 (i 1))) (gRow m c (i 1)) := by
  refine (dats m 0 c).arrAt_eq_of_covers 9 _ (by decide +kernel) fun t _ y => ?_
  blk_simp
  rw [after0_9]; frame_out
  idx_vars y
  obtain rfl : y0 = 0 := Subsingleton.elim _ _
  have h : (win0_9.blk t).view.emb (ix2 0 y1) = ix2 0 (rowOf t y1) := by blk_ext [rowOf, idx9 t]
  refine (pay15_whole (iblk m c 0 t) (iblk m c 1 t) (iblk m c 2 t) (iblk m c 3 t) (iblk m c 4 t) (iblk m c 5 t) y1).trans ?_
  rw [gcol_eq, blk4_at]
  exact (congrArg (fun i : S1x98304.Idx => state (moms m c (ix1 (i 1))) (gRow m c (i 1))) h).symm

/-! ### The run -/

/-- The kernel's windows are ten different arrays. -/
theorem arr_inj : Function.Injective (Pipeline.arrRef spec0) := by decide

/-- What the kernel program returns: the bytes by rows, and the scales, biases and momenta as vectors. -/
theorem run_values (g : Dev nD → PrngReg) : θ_run defs (onTc (τ := τ) (main (F := Ideal))) ⟨m, fun _ => 0, g⟩ (fun r => ∀ c : Dev nD,
      r.2.mem ((c.tc : Thread nD τ).loc main_v42)
        = transpose S98304x32 [1, 0] (fun i : S32x98304.Idx => byte (code (wRow m c (i 1)) (rRow m c (i 1))) (i 0)) transposes_S32x98304_S98304x32_1_0
      ∧ r.2.mem ((c.tc : Thread nD τ).loc main_v43) = shapeCast S98304 (fun i : S1x98304.Idx => oscale (wRow m c (i 1))) shapeCasts_S1x98304_S98304
      ∧ r.2.mem ((c.tc : Thread nD τ).loc main_v44) = shapeCast S98304 (fun i : S1x98304.Idx => lo (wRow m c (i 1))) shapeCasts_S1x98304_S98304
      ∧ r.2.mem ((c.tc : Thread nD τ).loc main_v45)
        = shapeCast S98304 (fun i : S1x98304.Idx => state (moms m c (ix1 (i 1))) (gRow m c (i 1))) shapeCasts_S1x98304_S98304) := by
  run_from run_main m g
  · unfold Pipeline.afterTail₀
    simp only [List.flatten_cons, List.flatten_nil, List.append_nil]
    after_reads_simp
    have h := Pipeline.withArrays_arr (cfgs 0).spec arr_inj c (V0 m c) (fun w => (dats m 0 c).arrAt w (cfgs 0).N) (6 : Fin cfg0.W)
    rw [final6] at h
    exact congrArg (fun X => transpose S98304x32 [1, 0] X transposes_S32x98304_S98304x32_1_0) h
  · unfold Pipeline.afterTail₀
    simp only [List.flatten_cons, List.flatten_nil, List.append_nil]
    after_reads_simp
    have h := Pipeline.withArrays_arr (cfgs 0).spec arr_inj c (V0 m c) (fun w => (dats m 0 c).arrAt w (cfgs 0).N) (7 : Fin cfg0.W)
    rw [final7] at h
    exact congrArg (fun X => shapeCast S98304 X shapeCasts_S1x98304_S98304) h
  · unfold Pipeline.afterTail₀
    simp only [List.flatten_cons, List.flatten_nil, List.append_nil]
    after_reads_simp
    have h := Pipeline.withArrays_arr (cfgs 0).spec arr_inj c (V0 m c) (fun w => (dats m 0 c).arrAt w (cfgs 0).N) (8 : Fin cfg0.W)
    rw [final8] at h
    exact congrArg (fun X => shapeCast S98304 X shapeCasts_S1x98304_S98304) h
  · unfold Pipeline.afterTail₀
    simp only [List.flatten_cons, List.flatten_nil, List.append_nil]
    after_reads_simp
    have h := Pipeline.withArrays_arr (cfgs 0).spec arr_inj c (V0 m c) (fun w => (dats m 0 c).arrAt w (cfgs 0).N) (9 : Fin cfg0.W)
    rw [final9] at h
    exact congrArg (fun X => shapeCast S98304 X shapeCasts_S1x98304_S98304) h

end Cert.KernelIdeal.Value

end
-- ==== Proof.Ref.lean ====
/-
  The reference, read row by row: its composed host terms, cut into the arrays it names (the fetched arrays, the momentum, the
  weights, the least and greatest weight, the scale, the codes, the bytes), and each of them read at one row as the row function of
  `Row.lean`. The last theorem is the reference's run with its four results in that form.
-/
module

public import proofs.«01_k».proof.Proof.Gen.ReferenceIdeal.Run
public import proofs.«01_k».proof.Proof.Row

@[expose] public section
set_option maxRecDepth 16384
noncomputable section
open Idealize.ShloMosaic Idealize.ShloMosaic.TcCoe Idealize.SL.Sem
namespace Cert.Ref
open Cert.ReferenceIdeal Cert.ReferenceIdeal.Gen Cert.Row

variable (G : FVec Ideal S98304x64 .f32) (P : IVec S98304x32 8) (SC BI MOM ST : FVec Ideal S98304 .f32) (R : IVec S98304x64 32)

/-- The reference's new momentum, of all rows. -/
def stateV : FVec Ideal S98304 .f32 :=
  addf MOM (Host.divf (Host.reduceAdd (mulf G G) (constant S_ .f32 0x00000000#32) reducesTo_S98304x64_S98304_d1 h_S_) (broadcastInDim S98304 ![] bcast_S_S98304 (constant S_ .f32 0x42800000#32)))

/-- The reference's updated weights. -/
def wV : FVec Ideal S98304x64 .f32 :=
  (subf (addf (mulf (sitofp .f32 (shapeCast _ (concatenate S98304x32x2 2 [⟨S98304x32x1, (broadcastInDim S98304x32x1 ![0, 1] bcast_S98304x32_S98304x32x1_0_1 (andi (extui 32 P natLt_8_32) (broadcastInDim S98304x32 ![] bcast_S_S98304x32 (constantI S_ 32 15#32))))⟩, ⟨S98304x32x1, (broadcastInDim S98304x32x1 ![0, 1] bcast_S98304x32_S98304x32x1_0_1 (Host.shrsi (extui 32 P natLt_8_32) (broadcastInDim S98304x32 ![] bcast_S_S98304x32 (constantI S_ 32 4#32))))⟩] concatenates_S98304x32x1_S98304x32x1_S98304x32x2_d2) shapeCasts_S98304x32x2_S98304x64)) (broadcastInDim S98304x64 ![0, 1] bcast_S98304x1_S98304x64_0_1 (broadcastInDim S98304x1 ![0] bcast_S98304_S98304x1_0 SC))) (broadcastInDim S98304x64 ![0, 1] bcast_S98304x1_S98304x64_0_1 (broadcastInDim S98304x1 ![0] bcast_S98304_S98304x1_0 BI))) (mulf (broadcastInDim S98304x64 ![0, 1] bcast_S98304x1_S98304x64_0_1 (broadcastInDim S98304x1 ![0] bcast_S98304_S98304x1_0 (Host.divf (broadcastInDim S98304 ![] bcast_S_S98304 (constant S_ .f32 0x3CA3D70A#32)) (addf (Host.sqrt ST) (broadcastInDim S98304 ![] bcast_S_S98304 (constant S_ .f32 0x322BCC77#32)))))) G))

/-- The reference's new bias, from the weights. -/
def loV (W : FVec Ideal S98304x64 .f32) : FVec Ideal S98304 .f32 :=
  Host.reduce FloatOps.minimumf W (constant S_ .f32 0x7F800000#32) reducesTo_S98304x64_S98304_d1 h_S_

/-- The reference's greatest weight of each row. -/
def hiV (W : FVec Ideal S98304x64 .f32) : FVec Ideal S98304 .f32 :=
  Host.reduce FloatOps.maximumf W (constant S_ .f32 0xFF800000#32) reducesTo_S98304x64_S98304_d1 h_S_

/-- The reference's new scale, from the greatest and the least weights. -/
def scaleV (HI LO : FVec Ideal S98304 .f32) : FVec Ideal S98304 .f32 :=
  Host.divf (subf HI LO) (broadcastInDim S98304 ![] bcast_S_S98304 (constant S_ .f32 0x41700000#32))

/-- The reference's new codes, one per column, from the weights, their greatest and least and the random words. -/
def codeV (W : FVec Ideal S98304x64 .f32) (HI LO : FVec Ideal S98304 .f32) (R : IVec S98304x64 32) : IVec S98304x64 32 :=
  (fptosi 32 (minimumf (broadcastInDim S98304x64 ![] bcast_S_S98304x64 (id (constant S_ .f32 0x41700000#32))) (maximumf (broadcastInDim S98304x64 ![] bcast_S_S98304x64 (id (constant S_ .f32 0x00000000#32))) (Host.floor (addf (mulf (subf W (broadcastInDim S98304x64 ![0, 1] bcast_S98304x1_S98304x64_0_1 (broadcastInDim S98304x1 ![0] bcast_S98304_S98304x1_0 LO))) (broadcastInDim S98304x64 ![0, 1] bcast_S98304x1_S98304x64_0_1 (broadcastInDim S98304x1 ![0] bcast_S98304_S98304x1_0 (Host.divf (broadcastInDim S98304 ![] bcast_S_S98304 (constant S_ .f32 0x41700000#32)) (addf (subf HI LO) (broadcastInDim S98304 ![] bcast_S_S98304 (constant S_ .f32 0x322BCC77#32))))))) (mulf (uitofp .f32 (Host.shrui R (broadcastInDim S98304x64 ![] bcast_S_S98304x64 (constantI S_ 32 8#32)))) (broadcastInDim S98304x64 ![] bcast_S_S98304x64 (constant S_ .f32 0x33800000#32))))))))

/-- The reference's packed bytes, from the codes: each code narrowed to a byte, then two of them packed into one. -/
def byteV (Q : IVec S98304x64 32) : IVec S98304x32 8 :=
  trunci 8 (ori (Host.slice S98304x32 ![0, 0] ![1, 2] (extui 32 (trunci 8 Q natLt_8_32) natLt_8_32) slicesBy_S98304x64_S98304x32_0s1_0s2) (Host.shli (Host.slice S98304x32 ![0, 1] ![1, 2] (extui 32 (trunci 8 Q natLt_8_32) natLt_8_32) slicesBy_S98304x64_S98304x32_0s1_1s2) (broadcastInDim S98304x32 ![] bcast_S_S98304x32 (constantI S_ 32 4#32)))) natLt_8_32

/-- The reference's momentum at a row is that row's. -/
theorem stateV_at (r : Fin 98304) : stateV G MOM (ix1 r) = state (MOM (ix1 r)) (fun d => G (ix2 r d)) := by
  pointwise [stateV]
  rfl

/-- The reference's weight at a row and column is that row's, at that column. -/
theorem wV_at (r : Fin 98304) (d : Fin 64) : wV G P SC BI ST (ix2 r d)
    = (((nib (fun j => P (ix2 r j)) d).toInt : ℝ) : EReal) * SC (ix1 r) + BI (ix1 r) - mult (ST (ix1 r)) * G (ix2 r d) := by
  pointwise [wV]
  have hn : (if h : d.val % 2 < 1 then IntOp.andi (BitVec.setWidth 32 (P (ix2 r ⟨d.val / 2, by omega⟩))) 15#32
      else IntOp.shrsi ArithUnit.host (BitVec.setWidth 32 (P (ix2 r ⟨d.val / 2, by omega⟩))) 4#32) = nib (fun j => P (ix2 r j)) d := by
    rw [nib]
    by_cases h : d.val % 2 = 0
    · rw [dif_pos (by omega), if_pos h]; rfl
    · rw [dif_neg (by omega), if_neg h]; exact shrsi_byte _
  rw [hn]
  rfl

/-- The reference's least weight of a row. -/
theorem loV_at (W : FVec Ideal S98304x64 .f32) (r : Fin 98304) : loV W (ix1 r) = lo (fun d => W (ix2 r d)) := by
  pointwise [loV]
  rfl

/-- The reference's greatest weight of a row. -/
theorem hiV_at (W : FVec Ideal S98304x64 .f32) (r : Fin 98304) : hiV W (ix1 r) = hi (fun d => W (ix2 r d)) := by
  pointwise [hiV]
  rfl

/-- The reference's scale at a row. -/
theorem scaleV_at (HI LO : FVec Ideal S98304 .f32) (r : Fin 98304) :
    scaleV HI LO (ix1 r) = Ideal.div (HI (ix1 r) - LO (ix1 r)) (Ideal.ofBits .f32 0x41700000#32) := by
  pointwise [scaleV]

/-- The reference's code at a row and column. -/
theorem codeV_at (W : FVec Ideal S98304x64 .f32) (HI LO : FVec Ideal S98304 .f32) (r : Fin 98304) (d : Fin 64) :
    codeV W HI LO R (ix2 r d) = quant (W (ix2 r d)) (LO (ix1 r)) (Ideal.div (Ideal.ofBits .f32 0x41700000#32)
      (HI (ix1 r) - LO (ix1 r) + Ideal.ofBits .f32 0x322BCC77#32)) (R (ix2 r d)) := by
  pointwise [codeV, id]
  rfl

/-- A code below 16 is itself after narrowing to a byte and widening again. -/
theorem narrow_lt (q : BitVec 32) (h : q.toNat < 16) : (q.setWidth 8).setWidth 32 = q := by
  refine BitVec.eq_of_toNat_eq ?_
  rw [BitVec.toNat_setWidth, BitVec.toNat_setWidth]
  omega

/-- The reference's packed byte at a row. -/
theorem byteV_at (Q : IVec S98304x64 32) (r : Fin 98304) (j : Fin 32) :
    byteV Q (ix2 r j) = byte (fun d => ((Q (ix2 r d)).setWidth 8).setWidth 32) j := by
  pointwise [byteV]
  have e : (⟨1 + 2 * j.val, by omega⟩ : Fin 64) = ⟨2 * j.val + 1, by omega⟩ := Fin.ext (by dsimp only; omega)
  rw [e]
  rfl

/-! ### The four results, from the rows of the weights -/

/-- If `w` lists the weights by rows, the reference's bytes are the rows' bytes. -/
theorem bytes_of (W : FVec Ideal S98304x64 .f32) (w : Fin 98304 → Fin 64 → EReal) (h : ∀ r d, W (ix2 r d) = w r d) :
    byteV (codeV W (hiV W) (loV W) R) = fun i : S98304x32.Idx => byte (code (w (i 0)) (fun d => R (ix2 (i 0) d))) (i 1) := by
  funext i
  idx_vars i
  refine (byteV_at _ _ _).trans ?_
  have e : (fun d => ((codeV W (hiV W) (loV W) R (ix2 i0 d)).setWidth 8).setWidth 32) = code (w i0) (fun d => R (ix2 i0 d)) := by
    funext d
    rw [codeV_at, loV_at, hiV_at, funext (h i0), h]
    exact narrow_lt _ (code_lt (w i0) (fun d => R (ix2 i0 d)) d)
  rw [e]

/-- If `w` lists the weights by rows, the reference's scales are the rows' scales. -/
theorem scale_of (W : FVec Ideal S98304x64 .f32) (w : Fin 98304 → Fin 64 → EReal) (h : ∀ r d, W (ix2 r d) = w r d) :
    scaleV (hiV W) (loV W) = fun i : S98304.Idx => oscale (w (i 0)) := by
  funext i
  idx_vars i
  rw [scaleV_at, loV_at, hiV_at, funext (h i0)]
  rfl

/-- If `w` lists the weights by rows, the reference's biases are the rows' least weights. -/
theorem bias_of (W : FVec Ideal S98304x64 .f32) (w : Fin 98304 → Fin 64 → EReal) (h : ∀ r d, W (ix2 r d) = w r d) :
    loV W = fun i : S98304.Idx => lo (w (i 0)) := by
  funext i
  idx_vars i
  rw [loV_at, funext (h i0)]

/-- The reference's momenta are the rows' momenta. -/
theorem state_of : stateV G MOM = fun i : S98304.Idx => state (MOM (ix1 (i 0))) (fun d => G (ix2 (i 0) d)) := by
  funext i
  idx_vars i
  exact stateV_at G MOM i0

/-- Row `r`'s updated weights, from the fetched arrays. -/
def wRow (r : Fin 98304) : Fin 64 → EReal :=
  wnew (fun j => P (ix2 r j)) (SC (ix1 r)) (BI (ix1 r)) (MOM (ix1 r)) (fun d => G (ix2 r d))

/-- The reference's weights are the rows' updated weights. -/
theorem weights_of (r : Fin 98304) (d : Fin 64) : wV G P SC BI (stateV G MOM) (ix2 r d) = wRow G P SC BI MOM r d := by
  rw [wV_at, stateV_at]
  rfl

/-! ### The fetched arrays and the run -/

/-- The row numbers as the reference reads them: a negative one counts from the end of the table. -/
def idsR (A4 : IVec S98304 32) : IVec S98304x1 32 :=
  broadcastInDim S98304x1 ![0] bcast_S98304_S98304x1_0 (select (cmpi .slt A4 (broadcastInDim S98304 ![] bcast_S_S98304 (constantI S_ 32 0#32))) (addi A4 (broadcastInDim S98304 ![] bcast_S_S98304 (constantI S_ 32 6000000#32))) A4)

/-- The gradient of every fetched row: each sample's gradient added into the rows that it names. -/
def gradR (A5 : IVec S3072x128 32) (A6 : FVec Ideal S3072x64 .f32) : FVec Ideal S98304x64 .f32 :=
  Host.scatterAdd scatter_S98304x64_S393216x1_S393216x64_1_0_0_1 (broadcastInDim S98304x64 ![] bcast_S_S98304x64 (constant S_ .f32 0x00000000#32))
    (broadcastInDim S393216x1 ![0] bcast_S393216_S393216x1_0 (shapeCast _ A5 shapeCasts_S3072x128_S393216))
    (shapeCast _ (broadcastInDim S3072x128x64 ![0, 1, 2] bcast_S3072x1x64_S3072x128x64_0_1_2 (broadcastInDim S3072x1x64 ![0, 2] bcast_S3072x64_S3072x1x64_0_2 A6)) shapeCasts_S3072x128x64_S393216x64)

/-- The fetched rows' packed bytes. -/
def packedR (A0 : IVec S6000000x32 8) (A4 : IVec S98304 32) : IVec S98304x32 8 :=
  Host.gather gather_S6000000x32_S98304x1_S98304x32_1_0_n_n_0_1_132 A0 (idsR A4)

/-- One number per fetched row, from a table of one number per row. -/
def fieldR (A : FVec Ideal S6000000 .f32) (A4 : IVec S98304 32) : FVec Ideal S98304 .f32 :=
  Host.gather gather_S6000000_S98304x1_S98304_n_0_n_n_0_1_1 A (idsR A4)

variable (m : (ℓ : Loc nD τ sig) → Buf (Elt Ideal) ℓ)

/-- The gradients of the fetched rows, at a launch. -/
def grads (c : Dev nD) : FVec Ideal S98304x64 .f32 := gradR (m ((c.tc : Thread nD τ).loc main_arg5)) (m ((c.tc : Thread nD τ).loc main_arg6))

/-- The momenta of the fetched rows, at a launch. -/
def moms (c : Dev nD) : FVec Ideal S98304 .f32 := fieldR (m ((c.tc : Thread nD τ).loc main_arg3)) (m ((c.tc : Thread nD τ).loc main_arg4))

/-- The reference's weights, at a launch. -/
def weights (c : Dev nD) : FVec Ideal S98304x64 .f32 :=
  wV (grads m c) (packedR (m ((c.tc : Thread nD τ).loc main_arg0)) (m ((c.tc : Thread nD τ).loc main_arg4)))
    (fieldR (m ((c.tc : Thread nD τ).loc main_arg1)) (m ((c.tc : Thread nD τ).loc main_arg4)))
    (fieldR (m ((c.tc : Thread nD τ).loc main_arg2)) (m ((c.tc : Thread nD τ).loc main_arg4))) (stateV (grads m c) (moms m c))

/-- Row `r`'s updated weights, at a launch. -/
def rows (c : Dev nD) (r : Fin 98304) : Fin 64 → EReal :=
  wRow (grads m c) (packedR (m ((c.tc : Thread nD τ).loc main_arg0)) (m ((c.tc : Thread nD τ).loc main_arg4)))
    (fieldR (m ((c.tc : Thread nD τ).loc main_arg1)) (m ((c.tc : Thread nD τ).loc main_arg4)))
    (fieldR (m ((c.tc : Thread nD τ).loc main_arg2)) (m ((c.tc : Thread nD τ).loc main_arg4))) (moms m c) r

/-- The weights at a launch are their rows. -/
theorem weights_rows (c : Dev nD) (r : Fin 98304) (d : Fin 64) : weights m c (ix2 r d) = rows m c r d := weights_of ..

/-- The least weights are what the reference's run returns as biases. -/
theorem res_bias (c : Dev nD) : Cert.ReferenceIdeal.Value.res_main_v97_2 m c = loV (weights m c) := by
  rw [Cert.ReferenceIdeal.Value.res_main_v97_2, id_eq]
  rfl

/-- The spreads over 15 are what the reference's run returns as scales. -/
theorem res_scale (c : Dev nD) : Cert.ReferenceIdeal.Value.res_main_v97_1 m c = scaleV (hiV (weights m c)) (loV (weights m c)) := by
  rw [Cert.ReferenceIdeal.Value.res_main_v97_1, id_eq]
  rfl

/-- The packed codes are what the reference's run returns as bytes. -/
theorem res_bytes (c : Dev nD) : Cert.ReferenceIdeal.Value.res_main_v97_0 m c
    = byteV (codeV (weights m c) (hiV (weights m c)) (loV (weights m c)) (m ((c.tc : Thread nD τ).loc main_arg7))) := by
  rw [Cert.ReferenceIdeal.Value.res_main_v97_0, id_eq]
  rfl

/-- The reference's run: its four results, row by row. -/
theorem run_rows (g : Dev nD → PrngReg) : θ_run defs (onTc (τ := τ) (main (F := Ideal))) ⟨m, fun _ => 0, g⟩ (fun r => ∀ c : Dev nD,
      r.2.mem ((c.tc : Thread nD τ).loc main_v97_0)
        = (fun i : S98304x32.Idx => byte (code (rows m c (i 0)) (fun d => (m ((c.tc : Thread nD τ).loc main_arg7) : IVec S98304x64 32) (ix2 (i 0) d))) (i 1))
      ∧ r.2.mem ((c.tc : Thread nD τ).loc main_v97_1) = (fun i : S98304.Idx => oscale (rows m c (i 0)))
      ∧ r.2.mem ((c.tc : Thread nD τ).loc main_v97_2) = (fun i : S98304.Idx => lo (rows m c (i 0)))
      ∧ r.2.mem ((c.tc : Thread nD τ).loc main_v55)
        = (fun i : S98304.Idx => state (moms m c (ix1 (i 0))) (fun d => grads m c (ix2 (i 0) d)))) :=
  θ_run_mono (Cert.ReferenceIdeal.Value.run m g) fun _ h c =>
    ⟨(h c).1.trans ((res_bytes m c).trans (bytes_of _ _ _ (weights_rows m c))),
     (h c).2.1.trans ((res_scale m c).trans (scale_of _ _ (weights_rows m c))),
     (h c).2.2.1.trans ((res_bias m c).trans (bias_of _ _ (weights_rows m c))),
     (h c).2.2.2.1.trans (state_of (grads m c) (moms m c))⟩

end Cert.Ref

end
-- ==== Proof.lean ====
/-
  The certificate. The three frames come from the generated runs; idealization changes nothing; and over the extended reals the
  kernel and the reference return the same bytes, scales, biases and momenta: each is, at every row, the row function of `Row.lean`
  applied to the same fetched row (`Final.lean` for the kernel, `Ref.lean` for the reference).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim
public import proofs.«01_k».proof.Proof.Final
public import proofs.«01_k».proof.Proof.Ref

@[expose] public section

noncomputable section

namespace Cert.Proof

open Idealize.ShloMosaic Idealize.SL.Sem Cert.Kernel

/-- The kernel program ends with its arguments unchanged and its counters at zero. -/
theorem frame_kernel : Cert.quiescent_Kernel := fun m ρ _ => Cert.Kernel.Gen.frame m ρ

/-- The same of the idealized kernel. -/
theorem frame_ideal : Cert.quiescent_KernelIdeal := fun m ρ _ => Cert.KernelIdeal.Gen.frame m ρ

/-- The same of the reference. -/
theorem frame_reference : Cert.quiescent_ReferenceIdeal := by
  intro m ρ _
  refine θ_run_mono (Cert.ReferenceIdeal.Value.run m ρ) fun r h => ⟨fun c => (h c).2.2.2.2, ?_⟩
  exact sem_eq_zero_of_no_sems (by decide) _

/-- Both programs sum the gradients by row in the same way. -/
theorem grad_eq (A5 : IVec Cert.KernelIdeal.S3072x128 32) (A6 : FVec Ideal Cert.KernelIdeal.S3072x64 .f32) :
    Cert.Ref.gradR A5 A6 = Cert.KernelIdeal.Value.gradV A5 A6 := rfl

/-- Both programs fetch the packed bytes in the same way. -/
theorem packed_eq (A0 : IVec Cert.KernelIdeal.S6000000x32 8) (A4 : IVec Cert.KernelIdeal.S98304 32) :
    Cert.Ref.packedR A0 A4 = Cert.KernelIdeal.Value.packedV A0 A4 := rfl

/-- Both programs fetch the scales, the biases and the momenta in the same way. -/
theorem field_eq (A : FVec Ideal Cert.KernelIdeal.S6000000 .f32) (A4 : IVec Cert.KernelIdeal.S98304 32) :
    Cert.Ref.fieldR A A4 = Cert.KernelIdeal.Value.fieldV A A4 := rfl

/-- The kernel's transposed bytes, read by rows. -/
theorem bytes_rows (f : Fin 98304 → Fin 32 → BitVec 8) :
    (transpose Cert.KernelIdeal.S98304x32 [1, 0] (fun i : Cert.KernelIdeal.S32x98304.Idx => f (i 1) (i 0))
        Cert.KernelIdeal.Gen.transposes_S32x98304_S98304x32_1_0 : IVec Cert.KernelIdeal.S98304x32 8)
      = fun i : Cert.KernelIdeal.S98304x32.Idx => f (i 0) (i 1) := by
  funext i
  idx_vars i
  pointwise

/-- The kernel's one-row arrays, read as vectors. -/
theorem vector_rows (f : Fin 98304 → EReal) :
    (shapeCast Cert.KernelIdeal.S98304 (fun i : Cert.KernelIdeal.S1x98304.Idx => f (i 1)) Cert.KernelIdeal.Gen.shapeCasts_S1x98304_S98304
        : FVec Ideal Cert.KernelIdeal.S98304 .f32)
      = fun i : Cert.KernelIdeal.S98304.Idx => f (i 0) := by
  funext i
  idx_vars i
  pointwise

/-- Over the extended reals the kernel returns what the reference returns: the bytes, the scales, the biases and the momenta. -/
theorem algebraic : Cert.algebraic_KernelIdeal_ReferenceIdeal := by
  pair_intro
  · run_from Cert.KernelIdeal.Value.run_values m g & Cert.KernelIdeal.Gen.unchanged m g
  · refine θ_run_mono (θ_run_and (Cert.Ref.run_rows m' g') (Cert.ReferenceIdeal.Value.run m' g')) fun r h c => ?_
    obtain ⟨a0, a1, a2, a3, a4, a5, a6, a7⟩ := hagree c
    have hg : Cert.Ref.grads m' c = Cert.KernelIdeal.Value.grads m c := by
      rw [Cert.Ref.grads, a5, a6]
      exact grad_eq _ _
    have hm : Cert.Ref.moms m' c = Cert.KernelIdeal.Value.moms m c := by
      rw [Cert.Ref.moms, a3, a4]
      exact field_eq _ _
    have hw : Cert.Ref.rows m' c = Cert.KernelIdeal.Value.wRow m c := by
      funext i
      rw [Cert.Ref.rows, hg, hm, a0, a1, a2, a4]
      rfl
    refine ⟨(h.1 c).1.trans ?_, (h.1 c).2.1.trans ?_, (h.1 c).2.2.1.trans ?_, (h.1 c).2.2.2.trans ?_, (h.2 c).2.2.2.2⟩
    · rw [hw, a7]
      exact (bytes_rows fun i j => Cert.Row.byte (Cert.Row.code (Cert.KernelIdeal.Value.wRow m c i) (Cert.KernelIdeal.Value.rRow m c i)) j).symm
    · rw [hw]
      exact (vector_rows fun i => Cert.Row.oscale (Cert.KernelIdeal.Value.wRow m c i)).symm
    · rw [hw]
      exact (vector_rows fun i => Cert.Row.lo (Cert.KernelIdeal.Value.wRow m c i)).symm
    · rw [hm, hg]
      exact (vector_rows fun i => Cert.Row.state (Cert.KernelIdeal.Value.moms m c (ix1 i)) (Cert.KernelIdeal.Value.gRow m c i)).symm

/-- Every claim. -/
theorem claim : Cert.Claim := ⟨Cert.Kernel.Gen.facts, Cert.KernelIdeal.Gen.facts, Cert.ReferenceIdeal.Gen.facts,
  frame_kernel, frame_ideal, frame_reference, trivial, algebraic⟩

end Cert.Proof

end
